-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_loss_is_defined [hPre_loss_is_defined : Cert.Pre_loss_is_defined.Facts] (m : (ℓ : Loc Cert.KernelIdeal.nD Cert.KernelIdeal.τ Cert.KernelIdeal.sig) → Buf (Elt Ideal) ℓ) : Prop :=
  ∀ c : Dev Cert.KernelIdeal.nD,
    (Cert.Pre_loss_is_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_loss_is_defined [hPre_loss_is_defined : Cert.Pre_loss_is_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_loss_is_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_loss_is_defined [hKernelIdeal : Cert.KernelIdeal.Facts] [hPre_loss_is_defined : Cert.Pre_loss_is_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_loss_is_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_loss_is_defined [hReferenceIdeal : Cert.ReferenceIdeal.Facts] [hPre_loss_is_defined : Cert.Pre_loss_is_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_loss_is_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_loss_is_defined [hKernelIdeal : Cert.KernelIdeal.Facts] [hReferenceIdeal : Cert.ReferenceIdeal.Facts] [hPre_loss_is_defined : Cert.Pre_loss_is_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_loss_is_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_loss_is_defined : Cert.Pre_loss_is_defined.Facts),
    quiescent_Kernel (hKernel := hKernel)
    ∧ quiescent_KernelIdeal (hKernelIdeal := hKernelIdeal)
    ∧ quiescent_KernelIdeal_pre_loss_is_defined (hKernelIdeal := hKernelIdeal) (hPre_loss_is_defined := hPre_loss_is_defined)
    ∧ quiescent_ReferenceIdeal (hReferenceIdeal := hReferenceIdeal)
    ∧ quiescent_ReferenceIdeal_pre_loss_is_defined (hReferenceIdeal := hReferenceIdeal) (hPre_loss_is_defined := hPre_loss_is_defined)
    ∧ preserves_Kernel_KernelIdeal
    ∧ algebraic_KernelIdeal_ReferenceIdeal_pre_loss_is_defined (hKernelIdeal := hKernelIdeal) (hReferenceIdeal := hReferenceIdeal) (hPre_loss_is_defined := hPre_loss_is_defined)
-- ==== Pre_loss_is_defined.lean ====
abbrev S8x19x512x512 : Shape := ⟨4, ![8, 19, 512, 512]⟩
abbrev S8x512x512 : Shape := ⟨3, ![8, 512, 512]⟩
abbrev S_ : Shape := ⟨0, ![]⟩

class Facts : Prop where
  reducesTo_S8x19x512x512_S8x512x512_d1 : S8x19x512x512.ReducesTo [1] S8x512x512
  h_S_ : 0 < S_.numel
  bcast_S8x512x512_S8x19x512x512_0_2_3 : S8x512x512.BroadcastsInDim S8x19x512x512 (![0, 2, 3] : Fin 3 → Fin S8x19x512x512.rank)
  bcast_S_S8x19x512x512 : S_.BroadcastsInDim S8x19x512x512 (![] : Fin 0 → Fin S8x19x512x512.rank)

variable [Facts]

def fn_part1 {F : FTy → Type} [FloatOps F] (main_arg0 : FVec F S8x19x512x512 .f32) (main_v1 : FVec F S8x19x512x512 .f32) (main_v2 : IVec S8x19x512x512 32) (main_v3 : IVec S8x19x512x512 32) (main_v8 : FVec F S8x19x512x512 .f32) (main_v13 : IVec S8x19x512x512 1) (main_v15 : IVec S8x19x512x512 1) (main_v16 : FVec F S8x19x512x512 .f32) : IVec S8x19x512x512 1 :=
  let main_v17 : IVec S8x19x512x512 1 := cmpf .ogt main_v1 main_v16
  let main_v18 : IVec S8x19x512x512 1 := andi main_v15 main_v17
  let main_v19 : IVec S8x19x512x512 1 := cmpi .sge main_v3 main_v2
  let main_v20 : IVec S8x19x512x512 1 := cmpf .olt main_arg0 main_v1
  let main_v21 : IVec S8x19x512x512 1 := ori main_v19 main_v20
  let main_v22 : IVec S8x19x512x512 1 := cmpf .olt main_v8 main_v1
  let main_v23 : IVec S8x19x512x512 1 := ori main_v21 main_v22
  let main_c_5 : IVec S_ 32 := constantI S_ 32 255#32
  let main_v24 : IVec S8x19x512x512 32 := broadcastInDim S8x19x512x512 ![] bcast_S_S8x19x512x512 main_c_5
  let main_v25 : IVec S8x19x512x512 1 := cmpi .eq main_v2 main_v24
  let main_v26 : IVec S8x19x512x512 1 := andi main_v13 main_v18
  let main_v27 : IVec S8x19x512x512 1 := andi main_v26 main_v23
  let main_v28 : IVec S8x19x512x512 1 := ori main_v25 main_v27
  main_v28

def fn {F : FTy → Type} [FloatOps F] (main_arg0 : FVec F S8x19x512x512 .f32) (main_arg1 : IVec S8x512x512 32) : IVec S8x19x512x512 1 :=
  let main_cst : FVec F S_ .f32 := constant S_ .f32 0xFF800000#32
  let main_v0 : FVec F S8x512x512 .f32 := (fun x v => Host.reduce FloatOps.maximumf x v reducesTo_S8x19x512x512_S8x512x512_d1 h_S_) main_arg0 main_cst
  let main_v1 : FVec F S8x19x512x512 .f32 := broadcastInDim S8x19x512x512 ![0, 2, 3] bcast_S8x512x512_S8x19x512x512_0_2_3 main_v0
  let main_v2 : IVec S8x19x512x512 32 := broadcastInDim S8x19x512x512 ![0, 2, 3] bcast_S8x512x512_S8x19x512x512_0_2_3 main_arg1
  let main_v3 : IVec S8x19x512x512 32 := iotaInDim S8x19x512x512 32 1
  let main_cst_0 : FVec F S_ .f32 := constant S_ .f32 0xFF800000#32
  let main_v4 : FVec F S8x19x512x512 .f32 := broadcastInDim S8x19x512x512 ![] bcast_S_S8x19x512x512 main_cst_0
  let main_v5 : IVec S8x19x512x512 1 := cmpi .eq main_v3 main_v2
  let main_v6 : FVec F S8x19x512x512 .f32 := select main_v5 main_arg0 main_v4
  let main_cst_1 : FVec F S_ .f32 := constant S_ .f32 0xFF800000#32
  let main_v7 : FVec F S8x512x512 .f32 := (fun x v => Host.reduce FloatOps.maximumf x v reducesTo_S8x19x512x512_S8x512x512_d1 h_S_) main_v6 main_cst_1
  let main_v8 : FVec F S8x19x512x512 .f32 := broadcastInDim S8x19x512x512 ![0, 2, 3] bcast_S8x512x512_S8x19x512x512_0_2_3 main_v7
  let main_c : IVec S_ 32 := constantI S_ 32 0#32
  let main_v9 : IVec S8x19x512x512 32 := broadcastInDim S8x19x512x512 ![] bcast_S_S8x19x512x512 main_c
  let main_v10 : IVec S8x19x512x512 1 := cmpi .sge main_v2 main_v9
  let main_c_2 : IVec S_ 32 := constantI S_ 32 19#32
  let main_v11 : IVec S8x19x512x512 32 := broadcastInDim S8x19x512x512 ![] bcast_S_S8x19x512x512 main_c_2
  let main_v12 : IVec S8x19x512x512 1 := cmpi .slt main_v2 main_v11
  let main_v13 : IVec S8x19x512x512 1 := andi main_v10 main_v12
  let main_cst_3 : FVec F S_ .f32 := constant S_ .f32 0x7F800000#32
  let main_v14 : FVec F S8x19x512x512 .f32 := broadcastInDim S8x19x512x512 ![] bcast_S_S8x19x512x512 main_cst_3
  let main_v15 : IVec S8x19x512x512 1 := cmpf .olt main_v1 main_v14
  let main_cst_4 : FVec F S_ .f32 := constant S_ .f32 0xFF800000#32
  let main_v16 : FVec F S8x19x512x512 .f32 := broadcastInDim S8x19x512x512 ![] bcast_S_S8x19x512x512 main_cst_4
  fn_part1 (F := F) main_arg0 main_v1 main_v2 main_v3 main_v8 main_v13 main_v15 main_v16
-- ==== Kernel.lean ====
abbrev S8x19x512x512 : Shape := ⟨4, ![8, 19, 512, 512]⟩
abbrev S8x512x512 : Shape := ⟨3, ![8, 512, 512]⟩
abbrev S8x128 : Shape := ⟨2, ![8, 128]⟩
abbrev S1x19x256x512 : Shape := ⟨4, ![1, 19, 256, 512]⟩
abbrev S1x256x512 : Shape := ⟨3, ![1, 256, 512]⟩
abbrev S2x19x8x512 : Shape := ⟨4, ![2, 19, 8, 512]⟩
abbrev S1x16x512 : Shape := ⟨3, ![1, 16, 512]⟩
abbrev S16x512 : Shape := ⟨2, ![16, 512]⟩
abbrev S1x1x16x512 : Shape := ⟨4, ![1, 1, 16, 512]⟩
abbrev S1x1x8x512 : Shape := ⟨4, ![1, 1, 8, 512]⟩
abbrev S8x512 : Shape := ⟨2, ![8, 512]⟩
abbrev S2x8x512 : Shape := ⟨3, ![2, 8, 512]⟩
abbrev S1x8x512 : Shape := ⟨3, ![1, 8, 512]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S1x19x256x512, .f32⟩
  | .local _ .vmem, ⟨1, _⟩ => ⟨S1x19x256x512, .f32⟩
  | .local _ .vmem, ⟨2, _⟩ => ⟨S1x256x512, .i32⟩
  | .local _ .vmem, ⟨3, _⟩ => ⟨S1x256x512, .i32⟩
  | .local _ .vmem, ⟨4, _⟩ => ⟨S8x128, .f32⟩
  | .local _ .vmem, ⟨5, _⟩ => ⟨S2x19x8x512, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c15_i32_9470 : BitVec 32 := 15#32
  let v10133 : BitVec 1 := Scalar.cmpi .eq v1 c15_i32_9470
  let v10134 : BitVec 32 := Scalar.extui v10133
  let c0_i32_9471 : BitVec 32 := 0#32
  let v10135 : BitVec 1 := Scalar.cmpi .ne v10134 c0_i32_9471
  v10135

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S256 : Shape := ⟨1, ![256]⟩
abbrev S2097152x1 : Shape := ⟨2, ![2097152, 1]⟩
abbrev S1 : Shape := ⟨1, ![1]⟩
abbrev S8x1x512x512 : Shape := ⟨4, ![8, 1, 512, 512]⟩
abbrev S8x1x512x512x1 : Shape := ⟨5, ![8, 1, 512, 512, 1]⟩
abbrev S1x1x1x1x1 : Shape := ⟨5, ![1, 1, 1, 1, 1]⟩
abbrev S8x512x512x1 : Shape := ⟨4, ![8, 512, 512, 1]⟩

abbrev nBuf : Space → Nat
  | .hbm => 132
  | .vmem => 0
  | .smem => 0
  | _ => 0

abbrev hbmTy0_0 (i : Nat) : BufTy := match i % 128 with
  | 0 => ⟨S8x19x512x512, .f32⟩
  | 1 => ⟨S8x512x512, .i32⟩
  | 2 => ⟨S8x19x512x512, .i32⟩
  | 3 => ⟨S_, .f32⟩
  | 4 => ⟨S_, .i32⟩
  | 5 => ⟨S8x512x512, .f32⟩
  | 6 => ⟨S8x512x512, .i32⟩
  | 7 => ⟨S8x512x512, .i1⟩
  | 8 => ⟨S2097152, .i1⟩
  | 9 => ⟨S2097152, .i32⟩
  | 10 => ⟨S_, .i32⟩
  | 11 => ⟨S256, .i32⟩
  | 12 => ⟨S_, .i32⟩
  | 13 => ⟨S_, .i32⟩
  | 14 => ⟨S2097152, .i32⟩
  | 15 => ⟨S2097152, .i32⟩
  | 16 => ⟨S_, .i32⟩
  | 17 => ⟨S2097152, .i32⟩
  | 18 => ⟨S2097152, .i1⟩
  | 19 => ⟨S_, .i32⟩
  | 20 => ⟨S2097152, .i32⟩
  | 21 => ⟨S2097152, .i32⟩
  | 22 => ⟨S2097152, .i32⟩
  | 23 => ⟨S2097152x1, .i32⟩
  | 24 => ⟨S_, .i32⟩
  | 25 => ⟨S2097152, .i32⟩
  | 26 => ⟨S256, .i32⟩
  | 27 => ⟨S256, .f32⟩
  | 28 => ⟨S_, .f32⟩
  | 29 => ⟨S256, .f32⟩
  | 30 => ⟨S256, .i1⟩
  | 31 => ⟨S_, .f32⟩
  | 32 => ⟨S_, .f32⟩
  | 33 => ⟨S256, .f32⟩
  | 34 => ⟨S256, .f32⟩
  | 35 => ⟨S2097152, .f32⟩
  | 36 => ⟨S_, .f32⟩
  | 37 => ⟨S256, .f32⟩
  | 38 => ⟨S_, .i32⟩
  | 39 => ⟨S_, .i32⟩
  | 40 => ⟨S2097152, .i32⟩
  | 41 => ⟨S2097152, .i32⟩
  | 42 => ⟨S_, .i32⟩
  | 43 => ⟨S2097152, .i32⟩
  | 44 => ⟨S2097152, .i1⟩
  | 45 => ⟨S_, .i32⟩
  | 46 => ⟨S2097152, .i32⟩
  | 47 => ⟨S2097152, .i32⟩
  | 48 => ⟨S2097152, .i32⟩
  | 49 => ⟨S2097152x1, .i32⟩
  | 50 => ⟨S256, .f32⟩
  | 51 => ⟨S_, .f32⟩
  | 52 => ⟨S256, .f32⟩
  | 53 => ⟨S256, .i1⟩
  | 54 => ⟨S_, .f32⟩
  | 55 => ⟨S_, .f32⟩
  | 56 => ⟨S256, .f32⟩
  | 57 => ⟨S256, .f32⟩
  | 58 => ⟨S256, .f32⟩
  | 59 => ⟨S_, .i32⟩
  | 60 => ⟨S1, .i32⟩
  | 61 => ⟨S_, .f32⟩
  | 62 => ⟨S256, .f32⟩
  | 63 => ⟨S_, .f32⟩
  | 64 => ⟨S8x512x512, .f32⟩
  | 65 => ⟨S_, .f32⟩
  | 66 => ⟨S8x512x512, .f32⟩
  | 67 => ⟨S8x512x512, .f32⟩
  | 68 => ⟨S8x1x512x512, .f32⟩
  | 69 => ⟨S8x19x512x512, .f32⟩
  | 70 => ⟨S8x19x512x512, .f32⟩
  | 71 => ⟨S8x19x512x512, .f32⟩
  | 72 => ⟨S_, .f32⟩
  | 73 => ⟨S8x512x512, .f32⟩
  | 74 => ⟨S8x1x512x512, .f32⟩
  | 75 => ⟨S8x1x512x512, .f32⟩
  | 76 => ⟨S8x19x512x512, .f32⟩
  | 77 => ⟨S8x19x512x512, .f32⟩
  | 78 => ⟨S_, .i32⟩
  | 79 => ⟨S_, .i32⟩
  | 80 => ⟨S_, .i32⟩
  | 81 => ⟨S8x512x512, .i32⟩
  | 82 => ⟨S8x512x512, .i32⟩
  | 83 => ⟨S_, .i32⟩
  | 84 => ⟨S8x512x512, .i32⟩
  | 85 => ⟨S8x512x512, .i32⟩
  | 86 => ⟨S8x1x512x512, .i32⟩
  | 87 => ⟨S_, .i32⟩
  | 88 => ⟨S8x1x512x512, .i32⟩
  | 89 => ⟨S8x1x512x512, .i1⟩
  | 90 => ⟨S_, .i32⟩
  | 91 => ⟨S8x1x512x512, .i32⟩
  | 92 => ⟨S8x1x512x512, .i32⟩
  | 93 => ⟨S8x1x512x512, .i32⟩
  | 94 => ⟨S8x1x512x512x1, .i32⟩
  | 95 => ⟨S1, .i32⟩
  | 96 => ⟨S_, .i32⟩
  | 97 => ⟨S8x1x512x512x1, .i32⟩
  | 98 => ⟨S8x1x512x512x1, .i1⟩
  | 99 => ⟨S1x1x1x1x1, .i32⟩
  | 100 => ⟨S8x1x512x512x1, .i32⟩
  | 101 => ⟨S8x1x512x512x1, .i1⟩
  | 102 => ⟨S8x1x512x512x1, .i1⟩
  | 103 => ⟨S_, .i1⟩
  | 104 => ⟨S8x1x512x512, .i1⟩
  | 105 => ⟨S8x1x512x512, .f32⟩
  | 106 => ⟨S_, .f32⟩
  | 107 => ⟨S8x1x512x512, .f32⟩
  | 108 => ⟨S8x1x512x512, .f32⟩
  | 109 => ⟨S8x512x512, .f32⟩
  | 110 => ⟨S8x512x512, .f32⟩
  | 111 => ⟨S_, .i32⟩
  | 112 => ⟨S8x512x512, .i32⟩
  | 113 => ⟨S8x512x512, .i1⟩
  | 114 => ⟨S_, .f32⟩
  | 115 => ⟨S_, .f32⟩
  | 116 => ⟨S8x512x512, .f32⟩
  | 117 => ⟨S8x512x512, .f32⟩
  | 118 => ⟨S_, .i32⟩
  | 119 => ⟨S8x512x512, .i32⟩
  | 120 => ⟨S8x512x512, .i1⟩
  | 121 => ⟨S_, .i32⟩
  | 122 => ⟨S8x512x512, .i32⟩
  | 123 => ⟨S8x512x512, .i32⟩
  | 124 => ⟨S8x512x512, .i32⟩
  | 125 => ⟨S8x512x512x1, .i32⟩
  | 126 => ⟨S8x512x512, .f32⟩
  | 127 => ⟨S8x512x512, .f32⟩
  | _ => ⟨S8x19x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S8x19x512x512, .f32⟩

abbrev hbmTy (i : Nat) : BufTy := match i / 128 with
  | 0 => hbmTy0_0 i
  | 1 => hbmTy0_1 i
  | _ => ⟨S8x19x512x512, .f32⟩

abbrev bufTy : (tb : Table) → Fin (tcTables nBuf tb) → BufTy
  | .hbm, ⟨i, _⟩ => hbmTy i
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_c_6 : Ref sig .tc := ⟨.hbm, 38, rfl⟩
abbrev main_call3_v0 : Ref sig .tc := ⟨.hbm, 39, rfl⟩
abbrev main_call3_v1 : Ref sig .tc := ⟨.hbm, 40, rfl⟩
abbrev main_v20 : Ref sig .tc := ⟨.hbm, 41, rfl⟩
abbrev main_c_7 : Ref sig .tc := ⟨.hbm, 42, rfl⟩
abbrev main_v21 : Ref sig .tc := ⟨.hbm, 43, rfl⟩
abbrev main_v22 : Ref sig .tc := ⟨.hbm, 44, rfl⟩
abbrev main_c_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_cst_10 : Ref sig .tc := ⟨.hbm, 54, rfl⟩
abbrev main_call4_v0 : Ref sig .tc := ⟨.hbm, 55, rfl⟩
abbrev main_call4_v1 : Ref sig .tc := ⟨.hbm, 56, rfl⟩
abbrev main_v30 : Ref sig .tc := ⟨.hbm, 57, rfl⟩
abbrev main_v31 : Ref sig .tc := ⟨.hbm, 58, rfl⟩
abbrev main_c_11 : Ref sig .tc := ⟨.hbm, 59, rfl⟩
abbrev main_v32 : Ref sig .tc := ⟨.hbm, 60, rfl⟩
abbrev main_cst_12 : Ref sig .tc := ⟨.hbm, 61, rfl⟩
abbrev main_v33 : Ref sig .tc := ⟨.hbm, 62, rfl⟩
abbrev main_call5_cst : Ref sig .tc := ⟨.hbm, 63, rfl⟩
abbrev main_call5_v0 : Ref sig .tc := ⟨.hbm, 64, rfl⟩
abbrev main_call5_cst_0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_v5 : Ref sig .tc := ⟨.hbm, 70, rfl⟩
abbrev main_call5_v6 : Ref sig .tc := ⟨.hbm, 71, rfl⟩
abbrev main_call5_cst_1 : Ref sig .tc := ⟨.hbm, 72, rfl⟩
abbrev main_call5_v7 : Ref sig .tc := ⟨.hbm, 73, rfl⟩
abbrev main_call5_v8 : Ref sig .tc := ⟨.hbm, 74, rfl⟩
abbrev main_call5_v9 : Ref sig .tc := ⟨.hbm, 75, rfl⟩
abbrev main_call5_v10 : Ref sig .tc := ⟨.hbm, 76, rfl⟩
abbrev main_v34 : Ref sig .tc := ⟨.hbm, 77, rfl⟩
abbrev main_c_13 : Ref sig .tc := ⟨.hbm, 78, rfl⟩
abbrev main_c_14 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_v35 : Ref sig .tc := ⟨.hbm, 85, rfl⟩
abbrev main_v36 : Ref sig .tc := ⟨.hbm, 86, rfl⟩
abbrev main_call7_c : Ref sig .tc := ⟨.hbm, 87, rfl⟩
abbrev main_call7_v0 : Ref sig .tc := ⟨.hbm, 88, rfl⟩
abbrev main_call7_v1 : Ref sig .tc := ⟨.hbm, 89, rfl⟩
abbrev main_call7_c_0 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_c_1 : Ref sig .tc := ⟨.hbm, 95, rfl⟩
abbrev main_call7_c_2 : Ref sig .tc := ⟨.hbm, 96, rfl⟩
abbrev main_call7_v6 : Ref sig .tc := ⟨.hbm, 97, rfl⟩
abbrev main_call7_v7 : Ref sig .tc := ⟨.hbm, 98, rfl⟩
abbrev main_call7_v8 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_c_3 : Ref sig .tc := ⟨.hbm, 103, rfl⟩
abbrev main_call7_v12 : Ref sig .tc := ⟨.hbm, 104, rfl⟩
abbrev main_call7_v13 : Ref sig .tc := ⟨.hbm, 105, rfl⟩
abbrev main_call7_cst : Ref sig .tc := ⟨.hbm, 106, rfl⟩
abbrev main_call7_v14 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_c_15 : Ref sig .tc := ⟨.hbm, 111, rfl⟩
abbrev main_v40 : Ref sig .tc := ⟨.hbm, 112, rfl⟩
abbrev main_v41 : Ref sig .tc := ⟨.hbm, 113, rfl⟩
abbrev main_cst_16 : Ref sig .tc := ⟨.hbm, 114, rfl⟩
abbrev main_call8_v0 : Ref sig .tc := ⟨.hbm, 115, rfl⟩
abbrev main_call8_v1 : Ref sig .tc := ⟨.hbm, 116, rfl⟩
abbrev main_v42 : Ref sig .tc := ⟨.hbm, 117, rfl⟩
abbrev main_c_17 : Ref sig .tc := ⟨.hbm, 118, rfl⟩
abbrev main_v43 : Ref sig .tc := ⟨.hbm, 119, rfl⟩
abbrev main_v44 : Ref sig .tc := ⟨.hbm, 120, rfl⟩
abbrev main_c_18 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_cst_19 : Ref sig .tc := ⟨.hbm, 128, rfl⟩
abbrev main_v51 : Ref sig .tc := ⟨.hbm, 129, rfl⟩
abbrev main_cst_20 : Ref sig .tc := ⟨.hbm, 130, rfl⟩
abbrev main_v52 : Ref sig .tc := ⟨.hbm, 131, rfl⟩

abbrev nD : Nat := 1
abbrev τ : Topo := Topo.v7x

variable {F : FTy → Type} [FloatOps F]
-- ==== Proof.Block.Model.lean ====
module

public import proofs.«01_k».proof.Proof.Gen.KernelIdeal.Skeleton
public import Idealize.ShloMosaic.Lib.Pipeline.Frame
public import Idealize.ShloMosaic.Lib.Pipeline.Value

@[expose] public section

noncomputable section

/-! What one grid point stores into the accumulators, as a list of pieces built by one recursion over the stores. The
point goes over its blocks of 16 rows, in each over the classes, and per class stores plane 0 (the packed counts) and
then plane 1 (the cross entropies): store `k` is of block `k / 38`, class `k % 38 / 2`, plane `k % 2`. -/

namespace Cert.KernelIdeal.Block

open Cert.KernelIdeal Cert.KernelIdeal.Gen Idealize.ShloMosaic Idealize.ShloMosaic.TcCoe Idealize.SL Idealize.SL.Sem

variable {F : FTy → Type} [FloatOps F]

/-- Rows `16 i …` of class `c` lie inside a point's logits. -/
theorem inbX (i c : ℕ) (a : Fin 4) : (![0, c % 19, 16 * (i % 16), 0] : Fin 4 → ℕ) a + S1x1x16x512.size a ≤ S1x19x256x512.size a := by
  have h1 := Nat.mod_lt c (show 0 < 19 by decide)
  have h2 := Nat.mod_lt i (show 0 < 16 by decide)
  fin_cases a <;> simp <;> omega

/-- Rows `16 i …` lie inside a point's labels. -/
theorem inbT (i : ℕ) (a : Fin 3) : (![0, 16 * (i % 16), 0] : Fin 3 → ℕ) a + S1x16x512.size a ≤ S1x256x512.size a := by
  have h2 := Nat.mod_lt i (show 0 < 16 by decide)
  fin_cases a <;> simp <;> omega

/-- Plane `s` of class `c` lies inside the accumulators. -/
theorem inbA (s c : ℕ) (a : Fin 4) : (![s % 2, c % 19, 0, 0] : Fin 4 → ℕ) a + S1x1x8x512.size a ≤ S2x19x8x512.size a := by
  have h1 := Nat.mod_lt c (show 0 < 19 by decide)
  have h2 := Nat.mod_lt s (show 0 < 2 by decide)
  fin_cases a <;> simp <;> omega

/-- Block `i`'s rows of class `c`. -/
abbrev rectX (i c : ℕ) : Rect S1x19x256x512 := Rect.unit ![0, c % 19, 16 * (i % 16), 0] S1x1x16x512.size (inbX i c)
/-- Block `i`'s rows of the labels. -/
abbrev rectT (i : ℕ) : Rect S1x256x512 := Rect.unit ![0, 16 * (i % 16), 0] S1x16x512.size (inbT i)
/-- Plane `s` of class `c` of the accumulators. -/
abbrev rectA (s c : ℕ) : Rect S2x19x8x512 := Rect.unit ![s % 2, c % 19, 0, 0] S1x1x8x512.size (inbA s c)

section
variable (X : ℕ → ℕ → Vec F S1x1x16x512 .f32) (T : ℕ → Vec F S1x16x512 .i32)

/-- Block `i`'s logits of class `c`, as rows and lanes. -/
def lg (i c : ℕ) : FVec F S16x512 .f32 := shapeCast S16x512 (X i c) shapeCasts_S1x1x16x512_S16x512
/-- Block `i`'s labels, as rows and lanes. -/
def lab (i : ℕ) : IVec S16x512 32 := shapeCast S16x512 (T i) shapeCasts_S1x16x512_S16x512
/-- The largest of the first `n + 1` classes' logits. -/
def top (i n : ℕ) : FVec F S16x512 .f32 := Nat.rec (lg X i 0) (fun c p => maximumf p (lg X i (c + 1))) n
/-- The sum over the first `n + 1` classes of the exponentials of the logits less the largest. -/
def tot (i n : ℕ) : FVec F S16x512 .f32 :=
  Nat.rec (exp (subf (lg X i 0) (top X i 18))) (fun c p => addf p (exp (subf (lg X i (c + 1)) (top X i 18)))) n
/-- The logarithm of the sum of the exponentials, plus the largest. -/
def lse (i : ℕ) : FVec F S16x512 .f32 := addf (top X i 18) (log (tot X i 18))
/-- Where the label is class `c`. -/
def own (i c : ℕ) : IVec S16x512 1 := cmpi .eq (lab T i) (broadcast S16x512 (BitVec.ofNat 32 c))
/-- All zeros. -/
def zero : FVec F S16x512 .f32 := broadcast S16x512 (Scalar.ofBits .f32 0x00000000#32)
/-- All ones. -/
def one : FVec F S16x512 .f32 := broadcast S16x512 (Scalar.ofBits .f32 0x3F800000#32)
/-- One plus 1024, everywhere. -/
def hit : FVec F S16x512 .f32 := addf one (broadcast S16x512 (Scalar.ofBits .f32 0x44800000#32))
/-- The packed counts of class `c`: 1 at a pixel of the class, and 1024 more where its logit is not the largest. -/
def cnt (i c : ℕ) : FVec F S16x512 .f32 := select (own T i c) (select (cmpf .olt (lg X i c) (top X i 18)) hit one) zero
/-- The cross entropies of the pixels of class `c`. -/
def cep (i c : ℕ) : FVec F S16x512 .f32 := select (own T i c) (subf (lse X i) (lg X i c)) zero
/-- What is added to plane `s`. -/
def pix (s i c : ℕ) : FVec F S16x512 .f32 := Nat.rec (cnt X T i c) (fun _ _ => cep X T i c) s
/-- A plane of an accumulator with 16 rows added to it, eight and eight. -/
def upd (cur : Vec F S1x1x8x512 .f32) (v : FVec F S16x512 .f32) : FVec F S1x1x8x512 .f32 :=
  shapeCast S1x1x8x512 (addf (shapeCast S8x512 cur shapeCasts_S1x1x8x512_S8x512)
    (multiReduction .add [0] S8x512 (shapeCast S2x8x512 v shapeCasts_S16x512_S2x8x512) 0x00000000#32 reduces_S2x8x512_S8x512 (.inl rfl) rfl))
    shapeCasts_S8x512_S1x1x8x512

/-- Store `k`, over the plane's contents `cur`. -/
def piece (k : ℕ) (cur : Vec F S1x1x8x512 .f32) : View.Piece (Elt F) S2x19x8x512 .f32 :=
  ⟨rectA (k % 2) (k % 38 / 2), upd cur (pix X T (k % 2) (k / 38) (k % 38 / 2))⟩

end

/-- The first `n` stores, last first, onto the pieces `init`; `rd k prev` is what store `k` reads after the pieces `prev`. -/
def pieces (X : ℕ → ℕ → Vec F S1x1x16x512 .f32) (T : ℕ → Vec F S1x16x512 .i32)
    (init : List (View.Piece (Elt F) S2x19x8x512 .f32)) (rd : ℕ → List (View.Piece (Elt F) S2x19x8x512 .f32) → Vec F S1x1x8x512 .f32)
    (n : ℕ) : List (View.Piece (Elt F) S2x19x8x512 .f32) :=
  Nat.rec init (fun k prev => piece X T k (rd k prev) :: prev) n

section
variable (arg2 : Memref sig .tc .vmem S1x19x256x512 .f32) (harg2 : arg2.IsWhole) (arg3 : Memref sig .tc .vmem S1x256x512 .i32) (harg3 : arg3.IsWhole)
  (arg5 : Memref sig .tc .vmem S2x19x8x512 .f32) (harg5 : arg5.IsWhole)
  (x0 : Vec F S1x19x256x512 .f32) (x1 : Vec F S1x256x512 .i32) (xs0 : Vec F S2x19x8x512 .f32)

/-- The logits as the point reads them. -/
def rdX (i c : ℕ) : Vec F S1x1x16x512 .f32 := View.readAt (Elt F) arg2.view (rectX i c).toLoadRect (harg2.unread x0)
/-- The labels as the point reads them. -/
def rdT (i : ℕ) : Vec F S1x16x512 .i32 := View.readAt (Elt F) arg3.view (rectT i).toLoadRect (harg3.unread x1)
/-- A plane of the accumulators read after the pieces `prev`, which cover it. -/
def rdC (k : ℕ) (prev : List (View.Piece (Elt F) S2x19x8x512 .f32)) : Vec F S1x1x8x512 .f32 :=
  arg5.view.readCov prev (rectA (k % 2) (k % 38 / 2)).toLoadRect
/-- A plane of the accumulators read at a point that keeps them: from what was there at its first block, from the
point's own stores afterwards. -/
def rdB (k : ℕ) (prev : List (View.Piece (Elt F) S2x19x8x512 .f32)) : Vec F S1x1x8x512 .f32 :=
  Nat.rec (rdC arg5 k prev) (fun _ _ => View.readAt (Elt F) arg5.view (rectA (k % 2) (k % 38 / 2)).toLoadRect (harg5.unread xs0)) (38 - k)

/-- The zeros the first point stores over the whole of the accumulators. -/
def zeros : View.Piece (Elt F) S2x19x8x512 .f32 :=
  ⟨Rect.unit ![0, 0, 0, 0] S2x19x8x512.size inb_S2x19x8x512_S2x19x8x512_0_0_0_0,
    shapeCast S2x19x8x512 (broadcast S2x19x8x512 (Scalar.ofBits .f32 0x00000000#32 : F .f32)) shapeCasts_S2x19x8x512_S2x19x8x512⟩

/-- The pieces a point leaves that keeps the accumulators. -/
def piecesB (n : ℕ) : List (View.Piece (Elt F) S2x19x8x512 .f32) :=
  pieces (rdX arg2 harg2 x0) (rdT arg3 harg3 x1) [] (rdB arg5 harg5 xs0) n
/-- The pieces the first point leaves. -/
def piecesA (n : ℕ) : List (View.Piece (Elt F) S2x19x8x512 .f32) :=
  pieces (rdX arg2 harg2 x0) (rdT arg3 harg3 x1) [zeros] (rdC arg5) n

end

end Cert.KernelIdeal.Block

end
-- ==== Proof.Block.State.lean ====
module

public import proofs.«01_k».proof.Proof.Block.Model
public import Idealize.ShloMosaic.Lib.Pointwise

@[expose] public section

noncomputable section

/-! The accumulators after the first stores of a point, as a function of what they held before. -/

namespace Cert.KernelIdeal.Block

open Cert.KernelIdeal Cert.KernelIdeal.Gen Idealize.ShloMosaic Idealize.ShloMosaic.TcCoe Idealize.SL Idealize.SL.Sem

/-- Membership in a plane, by coordinates. -/
theorem mem_rectA {s c : ℕ} {y : S2x19x8x512.Idx} :
    y ∈ (rectA s c).set ↔ (y 0 : ℕ) = s % 2 ∧ (y 1 : ℕ) = c % 19 := by
  rw [Rect.mem_set_unit]
  have h2 : (y 2 : ℕ) < 8 := (y 2).isLt
  have h3 : (y 3 : ℕ) < 512 := (y 3).isLt
  constructor
  · intro h
    have a0 := h 0
    have a1 := h 1
    simp at a0 a1
    omega
  · rintro ⟨h0, h1⟩ a
    fin_cases a <;> simp <;> omega

/-- The row of an element of the accumulators. -/
def row (y : S2x19x8x512.Idx) : Fin 8 := y 2
/-- The lane of an element of the accumulators. -/
def lane (y : S2x19x8x512.Idx) : Fin 512 := y 3

/-- The index of a plane's element in the accumulators. -/
theorem emb_rectA {s c : ℕ} {y : S2x19x8x512.Idx} (h0 : (y 0 : ℕ) = s % 2) (h1 : (y 1 : ℕ) = c % 19) :
    (rectA s c).emb (ix4 (0 : Fin 1) (0 : Fin 1) (row y) (lane y)) = y := by
  funext a
  match a with
  | 0 => exact Fin.ext (by show s % 2 + 1 * 0 = _; omega)
  | 1 => exact Fin.ext (by show c % 19 + 1 * 0 = _; omega)
  | 2 => exact Fin.ext (by show 0 + 1 * (y 2 : ℕ) = _; omega)
  | 3 => exact Fin.ext (by show 0 + 1 * (y 3 : ℕ) = _; omega)

variable (X : ℕ → ℕ → Vec Ideal S1x1x16x512 .f32) (T : ℕ → Vec Ideal S1x16x512 .i32)

/-- Sixteen rows added into eight, at a row and a lane. -/
def fold8 (v : FVec Ideal S16x512 .f32) (r : Fin 8) (l : Fin 512) : EReal :=
  v (ix2 (⟨r, by omega⟩ : Fin 16) l) + v (ix2 (⟨8 + r, by omega⟩ : Fin 16) l)

/-- The update at an element: what was there, plus the two rows that fall on it. -/
theorem upd_apply (cur : Vec Ideal S1x1x8x512 .f32) (v : FVec Ideal S16x512 .f32) (r : Fin 8) (l : Fin 512) :
    upd cur v (ix4 0 0 r l) = cur (ix4 0 0 r l) + fold8 v r l := by
  pointwise [upd, fold8]
  rw [Fin.sum_univ_two]
  simp

/-- The accumulators after the first `n` stores, from `init`. -/
def st (init : S2x19x8x512.Idx → EReal) (n : ℕ) : S2x19x8x512.Idx → EReal :=
  Nat.rec init (fun k prev y => if (y 0 : ℕ) = k % 2 ∧ (y 1 : ℕ) = k % 38 / 2
    then prev y + fold8 (pix X T (k % 2) (k / 38) (k % 38 / 2)) (row y) (lane y) else prev y) n

/-- A store that adds to what its plane holds, by coordinates. -/
theorem overlay_piece (f g : S2x19x8x512.Idx → EReal) (k : ℕ) (cur : Vec Ideal S1x1x8x512 .f32)
    (hcur : ∀ r l, cur (ix4 0 0 r l) = g ((rectA (k % 2) (k % 38 / 2)).emb (ix4 (0 : Fin 1) (0 : Fin 1) r l))) (y : S2x19x8x512.Idx) :
    (rectA (k % 2) (k % 38 / 2)).overlay f (piece X T k cur).2 y
      = if (y 0 : ℕ) = k % 2 ∧ (y 1 : ℕ) = k % 38 / 2 then g y + fold8 (pix X T (k % 2) (k / 38) (k % 38 / 2)) (row y) (lane y) else f y := by
  have hm := mem_rectA (s := k % 2) (c := k % 38 / 2) (y := y)
  have e1 : k % 2 % 2 = k % 2 := by omega
  have e2 : k % 38 / 2 % 19 = k % 38 / 2 := by omega
  rw [e1, e2] at hm
  by_cases h : (y 0 : ℕ) = k % 2 ∧ (y 1 : ℕ) = k % 38 / 2
  · rw [if_pos h]
    have he := emb_rectA (s := k % 2) (c := k % 38 / 2) (y := y) (by omega) (by omega)
    have ho := (rectA (k % 2) (k % 38 / 2)).overlay_emb f (piece X T k cur).2 (ix4 (0 : Fin 1) (0 : Fin 1) (row y) (lane y))
    rw [he] at ho
    rw [ho]
    refine (upd_apply _ _ _ _).trans ?_
    rw [hcur, he]
  · rw [if_neg h]
    exact Rect.overlay_of_not_mem _ _ _ fun hy => h (hm.1 hy)

theorem st_succ (init : S2x19x8x512.Idx → EReal) (k : ℕ) (y : S2x19x8x512.Idx) :
    st X T init (k + 1) y = if (y 0 : ℕ) = k % 2 ∧ (y 1 : ℕ) = k % 38 / 2
      then st X T init k y + fold8 (pix X T (k % 2) (k / 38) (k % 38 / 2)) (row y) (lane y) else st X T init k y := rfl

/-- A plane whose first store is still to come holds what it held before. -/
theorem st_early (init : S2x19x8x512.Idx → EReal) (n : ℕ) (y : S2x19x8x512.Idx) (h : n ≤ 2 * (y 1 : ℕ) + (y 0 : ℕ)) :
    st X T init n y = init y := by
  have h1 : (y 1 : ℕ) < 19 := (y 1).isLt
  induction n with
  | zero => rfl
  | succ k ih => rw [st_succ, if_neg (by omega), ih (by omega)]

/-- A plane belongs to a piece once 38 stores are made. -/
theorem mem_pieces (init : List (View.Piece (Elt Ideal) S2x19x8x512 .f32)) (rd) (n k : ℕ) (hk : k < n) :
    ∃ p ∈ pieces X T init rd n, p.1 = rectA (k % 2) (k % 38 / 2) := by
  induction n with
  | zero => omega
  | succ j ih =>
    rcases Nat.lt_succ_iff_lt_or_eq.1 hk with h | rfl
    · obtain ⟨p, hp, e⟩ := ih h
      exact ⟨p, List.mem_cons_of_mem _ hp, e⟩
    · exact ⟨_, List.mem_cons_self, rfl⟩

/-- Every element belongs to one of 38 stores. -/
theorem covered (init : List (View.Piece (Elt Ideal) S2x19x8x512 .f32)) (rd) (n : ℕ) (y : S2x19x8x512.Idx)
    (h : 2 * (y 1 : ℕ) + (y 0 : ℕ) < n) : ∃ p ∈ pieces X T init rd n, y ∈ p.1.set := by
  have h0 : (y 0 : ℕ) < 2 := (y 0).isLt
  have h1 : (y 1 : ℕ) < 19 := (y 1).isLt
  obtain ⟨p, hp, e⟩ := mem_pieces X T init rd n _ h
  exact ⟨p, hp, by rw [e, mem_rectA]; omega⟩

section
variable (arg2 : Memref sig .tc .vmem S1x19x256x512 .f32) (harg2 : arg2.IsWhole) (arg3 : Memref sig .tc .vmem S1x256x512 .i32) (harg3 : arg3.IsWhole)
  (arg5 : Memref sig .tc .vmem S2x19x8x512 .f32) (harg5 : arg5.IsWhole)
  (x0 : Vec Ideal S1x19x256x512 .f32) (x1 : Vec Ideal S1x256x512 .i32) (xs0 : Vec Ideal S2x19x8x512 .f32)

/-- The first point's stores leave the state that starts from zero. -/
theorem canon_piecesA (n : ℕ) :
    View.canon (piecesA arg2 harg2 arg3 harg3 arg5 x0 x1 n)
      = st (rdX arg2 harg2 x0) (rdT arg3 harg3 x1) (fun _ => 0) n := by
  induction n with
  | zero =>
    refine (View.canon_unit_zero (by funext a; fin_cases a <;> rfl) _ _).trans ?_
    funext y
    pointwise
    rfl
  | succ k ih =>
    funext y
    rw [st_succ, ← ih]
    refine (congrFun (View.canon_cons _ _) y).trans ?_
    refine overlay_piece _ _ _ _ k _ ?_ y
    intro r l
    refine congrFun (View.readCov_eq_canon_ld _ _ _ fun z => ?_) _
    have hz : ∃ p ∈ piecesA arg2 harg2 arg3 harg3 arg5 x0 x1 0, z ∈ p.1.set :=
      ⟨zeros, List.mem_singleton_self _, View.mem_set_unit_zero (by funext a; fin_cases a <;> rfl) inb_S2x19x8x512_S2x19x8x512_0_0_0_0 z⟩
    obtain ⟨p, hp, hm⟩ := hz
    refine ⟨p, ?_, hm⟩
    clear ih
    induction k with
    | zero => exact hp
    | succ j ihj => exact List.mem_cons_of_mem _ ihj

/-- A keeping point's stores leave, on the planes stored so far, the state that starts from what was there. -/
theorem canon_piecesB_lt (n : ℕ) (y : S2x19x8x512.Idx) (h : 2 * (y 1 : ℕ) + (y 0 : ℕ) < n) :
    View.canon (piecesB arg2 harg2 arg3 harg3 arg5 harg5 x0 x1 xs0 n) y
      = st (rdX arg2 harg2 x0) (rdT arg3 harg3 x1) xs0 n y := by
  induction n generalizing y with
  | zero => omega
  | succ k ih =>
    rw [st_succ]
    have hlt : ∀ z : S2x19x8x512.Idx, 2 * (z 1 : ℕ) + (z 0 : ℕ) < 38 := fun z => by
      have h0 : (z 0 : ℕ) < 2 := (z 0).isLt
      have h1 : (z 1 : ℕ) < 19 := (z 1).isLt
      omega
    have hrd : ∀ r l, rdB arg5 harg5 xs0 k (piecesB arg2 harg2 arg3 harg3 arg5 harg5 x0 x1 xs0 k) (ix4 0 0 r l)
        = st (rdX arg2 harg2 x0) (rdT arg3 harg3 x1) xs0 k ((rectA (k % 2) (k % 38 / 2)).emb (ix4 (0 : Fin 1) (0 : Fin 1) r l)) := by
      intro r l
      by_cases hk : 38 ≤ k
      · have e : 38 - k = 0 := by omega
        unfold rdB
        rw [e]
        refine (congrFun (View.readCov_eq_canon_ld _ _ _ fun z => covered _ _ _ _ k z (by have := hlt z; omega)) _).trans ?_
        exact ih _ (lt_of_lt_of_le (hlt _) hk)
      · obtain ⟨j, e⟩ : ∃ j, 38 - k = j + 1 := ⟨38 - k - 1, by omega⟩
        unfold rdB
        rw [e]
        have hm := (mem_rectA (s := k % 2) (c := k % 38 / 2)
          (y := (rectA (k % 2) (k % 38 / 2)).emb (ix4 (0 : Fin 1) (0 : Fin 1) r l))).1
          (LoadRect.idx_mem _ _)
        rw [st_early _ _ _ _ _ (by omega)]
        exact congrFun (harg5.read_unread xs0) _
    refine (congrFun (View.canon_cons _ _) y).trans ?_
    refine (overlay_piece _ _ _ _ k _ hrd y).trans ?_
    split
    · rfl
    · exact ih y (by
        have h0 : (y 0 : ℕ) < 2 := (y 0).isLt
        by_cases hk : k < 38 <;> have := hlt y <;> omega)

/-- After all its stores, everywhere. -/
theorem canon_piecesB :
    View.canon (piecesB arg2 harg2 arg3 harg3 arg5 harg5 x0 x1 xs0 608)
      = st (rdX arg2 harg2 x0) (rdT arg3 harg3 x1) xs0 608 := by
  funext y
  have h0 : (y 0 : ℕ) < 2 := (y 0).isLt
  have h1 : (y 1 : ℕ) < 19 := (y 1).isLt
  exact canon_piecesB_lt _ _ _ _ _ _ _ _ _ _ _ (by omega)

/-- A plane read after all the stores. -/
theorem readCov_piecesB (s c : ℕ) (r : Fin 8) (l : Fin 512) :
    arg5.view.readCov (piecesB arg2 harg2 arg3 harg3 arg5 harg5 x0 x1 xs0 608) (rectA s c).toLoadRect (ix4 0 0 r l)
      = st (rdX arg2 harg2 x0) (rdT arg3 harg3 x1) xs0 608 ((rectA s c).emb (ix4 (0 : Fin 1) (0 : Fin 1) r l)) := by
  refine (congrFun (View.readCov_eq_canon_ld _ _ _ fun z => covered _ _ _ _ 608 z ?_) _).trans ?_
  · have h0 : (z 0 : ℕ) < 2 := (z 0).isLt
    have h1 : (z 1 : ℕ) < 19 := (z 1).isLt
    omega
  · exact congrFun (canon_piecesB _ _ _ _ _ _ _ _ _) _

end

end Cert.KernelIdeal.Block

end
-- ==== Proof.Math.Scalar.lean ====
module

public import Idealize.ShloMosaic.Lib.Pointwise
public import Idealize.ShloMosaic.Lib.IdealHost
public import Idealize.ShloMosaic.Lib.WordCmp

@[expose] public section

noncomputable section

/-! The constants of the two programs as extended reals, and their selects as conditionals. -/

namespace Cert.Math

open Idealize.ShloMosaic

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cInvN : Ideal.ofBits .f32 0x35000000#32 = ((1 / 2097152 : ℝ) : EReal) := by
  simp [Ideal.ofBits, Ideal.ieee, -EReal.coe_mul]; norm_num

theorem cN : Ideal.ofBits .f32 0x4A000000#32 = ((2097152 : ℝ) : EReal) := by
  simp [Ideal.ofBits, Ideal.ieee, -EReal.coe_mul]; norm_num

theorem cNegInf : Ideal.ofBits .f32 0xFF800000#32 = ⊥ := by
  simp [Ideal.ofBits, Ideal.ieee]

theorem cInf : Ideal.ofBits .f32 0x7F800000#32 = ⊤ := by
  simp [Ideal.ofBits, Ideal.ieee]

/-- A select on equal words. -/
theorem select_eq {α : Type} (a b : BitVec 32) (x y : α) :
    Scalar.select (IntOp.cmpi .eq a b) x y = if a = b then x else y := by
  rw [WordCmp.cmpi_eq_eq, WordCmp.select_ofBool]
  simp only [decide_eq_true_eq]

/-- A select on the order of two values. -/
theorem select_olt {α : Type} (a b : EReal) (x y : α) :
    Scalar.select (Ideal.cmp .olt a b) x y = if a < b then x else y := by
  unfold Ideal.cmp
  refine (WordCmp.select_ofBool _ _ _).trans ?_
  simp only [decide_eq_true_eq]

/-- The same, the other way round. -/
theorem select_ogt {α : Type} (a b : EReal) (x y : α) :
    Scalar.select (Ideal.cmp .ogt a b) x y = if b < a then x else y := by
  unfold Ideal.cmp
  refine (WordCmp.select_ofBool _ _ _).trans ?_
  simp only [decide_eq_true_eq]

end Cert.Math

end
-- ==== Proof.Block.Sum.lean ====
module

public import proofs.«01_k».proof.Proof.Block.State
public import proofs.«01_k».proof.Proof.Math.Scalar

@[expose] public section

noncomputable section

/-! The state after a point's stores in closed form: what was there, plus a sum over the point's blocks, with the
summand as a function of the pixel's logits and label. -/

namespace Cert.KernelIdeal.Block

open Cert.KernelIdeal Cert.KernelIdeal.Gen Idealize.ShloMosaic Idealize.ShloMosaic.TcCoe Idealize.SL Idealize.SL.Sem

section
variable (X : ℕ → ℕ → Vec Ideal S1x1x16x512 .f32) (T : ℕ → Vec Ideal S1x16x512 .i32)

/-- Among the 38 stores of block `i`, the element is added to once. -/
theorem st_within (init : S2x19x8x512.Idx → EReal) (i j : ℕ) (hj : j ≤ 38) (y : S2x19x8x512.Idx) :
    st X T init (38 * i + j) y = st X T init (38 * i) y
      + if 2 * (y 1 : ℕ) + (y 0 : ℕ) < j then fold8 (pix X T (y 0 : ℕ) i (y 1 : ℕ)) (row y) (lane y) else 0 := by
  have h0 : (y 0 : ℕ) < 2 := (y 0).isLt
  have h1 : (y 1 : ℕ) < 19 := (y 1).isLt
  induction j with
  | zero => simp
  | succ j ih =>
    rw [← Nat.add_assoc, st_succ, ih (by omega)]
    have e0 : (38 * i + j) % 2 = j % 2 := by omega
    have e1 : (38 * i + j) % 38 = j := by omega
    have e2 : (38 * i + j) / 38 = i := by omega
    rw [e0, e1, e2]
    by_cases h : (y 0 : ℕ) = j % 2 ∧ (y 1 : ℕ) = j / 2
    · rw [if_pos h, if_neg (by omega), if_pos (by omega), add_zero, h.1, h.2]
    · rw [if_neg h]
      congr 1
      by_cases hl : 2 * (y 1 : ℕ) + (y 0 : ℕ) < j
      · rw [if_pos hl, if_pos (by omega)]
      · rw [if_neg hl, if_neg (by omega)]

/-- After `n` whole blocks: one term per block. -/
theorem st_blocks (init : S2x19x8x512.Idx → EReal) (n : ℕ) (y : S2x19x8x512.Idx) :
    st X T init (38 * n) y = init y + ∑ i ∈ Finset.range n, fold8 (pix X T (y 0 : ℕ) i (y 1 : ℕ)) (row y) (lane y) := by
  have h0 : (y 0 : ℕ) < 2 := (y 0).isLt
  have h1 : (y 1 : ℕ) < 19 := (y 1).isLt
  induction n with
  | zero => simp [st]
  | succ n ih =>
    rw [Nat.mul_succ, st_within X T init n 38 le_rfl y, if_pos (by omega), ih, Finset.sum_range_succ, add_assoc]

end

/-! ## One pixel -/

/-- The largest of the first `n + 1` logits of a pixel. -/
def topS (v : ℕ → EReal) (n : ℕ) : EReal := Nat.rec (v 0) (fun c p => max p (v (c + 1))) n
/-- The sum of the exponentials of the first `n + 1` logits less the largest of all. -/
def totS (v : ℕ → EReal) (n : ℕ) : EReal :=
  Nat.rec (Ideal.exp (v 0 - topS v 18)) (fun c p => p + Ideal.exp (v (c + 1) - topS v 18)) n
/-- A pixel's part of the packed counts of class `c`. -/
def cntS (v : ℕ → EReal) (t : BitVec 32) (c : ℕ) : EReal :=
  if t = BitVec.ofNat 32 c then (if v c < topS v 18 then 1 + Ideal.ofBits .f32 0x44800000#32 else 1) else 0
/-- A pixel's part of the cross entropies of class `c`. -/
def cepS (v : ℕ → EReal) (t : BitVec 32) (c : ℕ) : EReal :=
  if t = BitVec.ofNat 32 c then topS v 18 + Ideal.log (totS v 18) - v c else 0
/-- Either. -/
def pixS (v : ℕ → EReal) (t : BitVec 32) (s c : ℕ) : EReal := Nat.rec (cntS v t c) (fun _ _ => cepS v t c) s

section
variable (X : ℕ → ℕ → Vec Ideal S1x1x16x512 .f32) (T : ℕ → Vec Ideal S1x16x512 .i32)

theorem lg_apply (i c : ℕ) (p : Fin 16) (l : Fin 512) : lg X i c (ix2 p l) = X i c (ix4 0 0 p l) := by
  pointwise [lg]

theorem lab_apply (i : ℕ) (p : Fin 16) (l : Fin 512) : lab T i (ix2 p l) = T i (ix3 0 p l) := by
  pointwise [lab]

theorem top_apply (i n : ℕ) (p : Fin 16) (l : Fin 512) :
    top X i n (ix2 p l) = topS (fun c => X i c (ix4 0 0 p l)) n := by
  induction n with
  | zero => exact lg_apply X i 0 p l
  | succ n ih => exact congrArg₂ max ih (lg_apply X i (n + 1) p l)

theorem tot_apply (i n : ℕ) (p : Fin 16) (l : Fin 512) :
    tot X i n (ix2 p l) = totS (fun c => X i c (ix4 0 0 p l)) n := by
  have h : ∀ c, exp (subf (lg X i c) (top X i 18)) (ix2 p l)
      = Ideal.exp (X i c (ix4 0 0 p l) - topS (fun c => X i c (ix4 0 0 p l)) 18) := by
    intro c
    rw [← lg_apply X i c p l, ← top_apply X i 18 p l]
    rfl
  induction n with
  | zero => exact h 0
  | succ n ih => exact congrArg₂ (· + ·) ih (h (n + 1))

theorem pix_apply (s i c : ℕ) (p : Fin 16) (l : Fin 512) :
    pix X T s i c (ix2 p l) = pixS (fun c => X i c (ix4 0 0 p l)) (T i (ix3 0 p l)) s c := by
  have hown : own T i c (ix2 p l) = IntOp.cmpi .eq (T i (ix3 0 p l)) (BitVec.ofNat 32 c) := by
    rw [← lab_apply T i p l]; rfl
  cases s with
  | zero =>
    show cnt X T i c (ix2 p l) = cntS (fun c => X i c (ix4 0 0 p l)) (T i (ix3 0 p l)) c
    unfold cnt cntS
    pointwise [zero, one, hit]
    rw [hown, lg_apply, top_apply]
    rw [Math.select_eq]
  | succ s =>
    show cep X T i c (ix2 p l) = cepS (fun c => X i c (ix4 0 0 p l)) (T i (ix3 0 p l)) c
    unfold cep cepS
    pointwise [zero, lse]
    rw [hown, lg_apply, top_apply, tot_apply]
    rw [Math.select_eq]

end

/-- A pixel's part, from a point's own block of the two arrays. -/
def px0 (x0 : Vec Ideal S1x19x256x512 .f32) (x1 : Vec Ideal S1x256x512 .i32) (s c q l : ℕ) : EReal :=
  pixS (fun k => x0 (ix4 0 (Fin.ofNat 19 k) (Fin.ofNat 256 q) (Fin.ofNat 512 l))) (x1 (ix3 0 (Fin.ofNat 256 q) (Fin.ofNat 512 l))) s c

/-- Pairs of terms, taken one by one. -/
theorem sum_pairs (g : ℕ → EReal) (n : ℕ) :
    ∑ i ∈ Finset.range n, (g (2 * i) + g (2 * i + 1)) = ∑ j ∈ Finset.range (2 * n), g j := by
  induction n with
  | zero => rfl
  | succ n ih =>
    rw [Finset.sum_range_succ, ih, show 2 * (n + 1) = 2 * n + 1 + 1 by ring, Finset.sum_range_succ, Finset.sum_range_succ, add_assoc]

section
variable (arg2 : Memref sig .tc .vmem S1x19x256x512 .f32) (harg2 : arg2.IsWhole) (arg3 : Memref sig .tc .vmem S1x256x512 .i32) (harg3 : arg3.IsWhole)
  (x0 : Vec Ideal S1x19x256x512 .f32) (x1 : Vec Ideal S1x256x512 .i32)

theorem rdX_apply (i c : ℕ) (p : Fin 16) (l : Fin 512) :
    rdX arg2 harg2 x0 i c (ix4 0 0 p l) = x0 (ix4 0 (Fin.ofNat 19 c) (Fin.ofNat 256 (16 * (i % 16) + p)) l) := by
  have hp := p.isLt
  refine (congrFun (harg2.read_unread x0) ((rectX i c).idx (ix4 0 0 p l))).trans ?_
  congr 1
  funext a
  match a with
  | 0 => rfl
  | 1 => exact Fin.ext (by show c % 19 + 1 * 0 = c % 19; omega)
  | 2 => exact Fin.ext (by show 16 * (i % 16) + 1 * (p : ℕ) = (16 * (i % 16) + (p : ℕ)) % 256; omega)
  | 3 => exact Fin.ext (by show 0 + 1 * (l : ℕ) = l; omega)

theorem rdT_apply (i : ℕ) (p : Fin 16) (l : Fin 512) :
    rdT arg3 harg3 x1 i (ix3 0 p l) = x1 (ix3 0 (Fin.ofNat 256 (16 * (i % 16) + p)) l) := by
  have hp := p.isLt
  refine (congrFun (harg3.read_unread x1) ((rectT i).idx (ix3 0 p l))).trans ?_
  congr 1
  funext a
  match a with
  | 0 => rfl
  | 1 => exact Fin.ext (by show 16 * (i % 16) + 1 * (p : ℕ) = (16 * (i % 16) + (p : ℕ)) % 256; omega)
  | 2 => exact Fin.ext (by show 0 + 1 * (l : ℕ) = l; omega)

theorem pix_px0 (s i c : ℕ) (p : Fin 16) (l : Fin 512) :
    pix (rdX arg2 harg2 x0) (rdT arg3 harg3 x1) s i c (ix2 p l) = px0 x0 x1 s c (16 * (i % 16) + p) l := by
  rw [pix_apply, rdT_apply]
  unfold px0
  have hl : Fin.ofNat 512 (l : ℕ) = l := Fin.ext (Nat.mod_eq_of_lt l.isLt)
  rw [hl]
  congr 1
  funext k
  exact rdX_apply arg2 harg2 x0 i k p l

/-- What a point leaves: what was there, plus the parts of the pixels that fall on the element. -/
theorem point_apply (init : S2x19x8x512.Idx → EReal) (y : S2x19x8x512.Idx) :
    st (rdX arg2 harg2 x0) (rdT arg3 harg3 x1) init 608 y
      = init y + ∑ j ∈ Finset.range 32, px0 x0 x1 (y 0 : ℕ) (y 1 : ℕ) (8 * j + row y) (lane y) := by
  refine (st_blocks _ _ init 16 y).trans ?_
  rw [← sum_pairs _ 16]
  congr 1
  refine Finset.sum_congr rfl fun i hi => ?_
  have hi := Finset.mem_range.1 hi
  unfold fold8
  rw [pix_px0, pix_px0]
  congr 2 <;> (dsimp only; omega)

end

end Cert.KernelIdeal.Block

end
-- ==== Proof.Block.PiecesA.lean ====
module

public import proofs.«01_k».proof.Proof.Block.Model
public import proofs.«01_k».proof.Proof.Gen.KernelIdeal.Frame.RunA
import all proofs.«01_k».proof.Proof.Gen.KernelIdeal.Frame.RunA

@[expose] public section

noncomputable section

namespace Cert.KernelIdeal.Block

open Cert.KernelIdeal Cert.KernelIdeal.Gen Idealize.ShloMosaic Idealize.ShloMosaic.TcCoe Idealize.SL Idealize.SL.Sem

variable {F : FTy → Type} [FloatOps F]

set_option maxRecDepth 65536 in
/-- The first point's run leaves in the accumulators exactly `piecesA`. -/
theorem runA_pieces (c : Dev nD) (i : grid0.Coords) (arg2 : Memref sig .tc .vmem S1x19x256x512 .f32) (harg2 : arg2.IsWhole) (arg3 : Memref sig .tc .vmem S1x256x512 .i32) (harg3 : arg3.IsWhole) (arg4 : Memref sig .tc .vmem S8x128 .f32) (harg4 : arg4.IsWhole) (arg5 : Memref sig .tc .vmem S2x19x8x512 .f32) (harg5 : arg5.IsWhole) (hc0 : cond0_0 i) (hc1 : ¬cond0_1 i)
    (x0 : Vec F S1x19x256x512 .f32) (x1 : Vec F S1x256x512 .i32)  :
    (kernelRun0_A c i arg2 harg2 arg3 harg3 arg4 harg4 arg5 harg5 hc0 hc1 x0 x1).2.1 = piecesA arg2 harg2 arg3 harg3 arg5 x0 x1 608 := by
  unfold kernelRun0_A
  dsimp only
  rfl

end Cert.KernelIdeal.Block

end
-- ==== Proof.Block.PiecesB.lean ====
module

public import proofs.«01_k».proof.Proof.Block.Model
public import proofs.«01_k».proof.Proof.Gen.KernelIdeal.Frame.RunB
import all proofs.«01_k».proof.Proof.Gen.KernelIdeal.Frame.RunB

@[expose] public section

noncomputable section

namespace Cert.KernelIdeal.Block

open Cert.KernelIdeal Cert.KernelIdeal.Gen Idealize.ShloMosaic Idealize.ShloMosaic.TcCoe Idealize.SL Idealize.SL.Sem

variable {F : FTy → Type} [FloatOps F]

set_option maxRecDepth 65536 in
/-- A middle point's run leaves in the accumulators exactly `piecesB`. -/
theorem runB_pieces (c : Dev nD) (i : grid0.Coords) (arg2 : Memref sig .tc .vmem S1x19x256x512 .f32) (harg2 : arg2.IsWhole) (arg3 : Memref sig .tc .vmem S1x256x512 .i32) (harg3 : arg3.IsWhole) (arg4 : Memref sig .tc .vmem S8x128 .f32) (harg4 : arg4.IsWhole) (arg5 : Memref sig .tc .vmem S2x19x8x512 .f32) (harg5 : arg5.IsWhole) (hc0 : ¬cond0_0 i) (hc1 : ¬cond0_1 i)
    (x0 : Vec F S1x19x256x512 .f32) (x1 : Vec F S1x256x512 .i32) (xs0 : Vec F S2x19x8x512 .f32) :
    (kernelRun0_B c i arg2 harg2 arg3 harg3 arg4 harg4 arg5 harg5 hc0 hc1 x0 x1 xs0).2.1 = piecesB arg2 harg2 arg3 harg3 arg5 harg5 x0 x1 xs0 608 := by
  unfold kernelRun0_B
  dsimp only
  rfl

end Cert.KernelIdeal.Block

end
-- ==== Proof.Block.PiecesC.lean ====
module

public import proofs.«01_k».proof.Proof.Block.Model
public import proofs.«01_k».proof.Proof.Gen.KernelIdeal.Frame.RunC
import all proofs.«01_k».proof.Proof.Gen.KernelIdeal.Frame.RunC

@[expose] public section

noncomputable section

namespace Cert.KernelIdeal.Block

open Cert.KernelIdeal Cert.KernelIdeal.Gen Idealize.ShloMosaic Idealize.ShloMosaic.TcCoe Idealize.SL Idealize.SL.Sem

variable {F : FTy → Type} [FloatOps F]

set_option maxRecDepth 65536 in
/-- The last point's run leaves in the accumulators exactly `piecesB`. -/
theorem runC_pieces (c : Dev nD) (i : grid0.Coords) (arg2 : Memref sig .tc .vmem S1x19x256x512 .f32) (harg2 : arg2.IsWhole) (arg3 : Memref sig .tc .vmem S1x256x512 .i32) (harg3 : arg3.IsWhole) (arg4 : Memref sig .tc .vmem S8x128 .f32) (harg4 : arg4.IsWhole) (arg5 : Memref sig .tc .vmem S2x19x8x512 .f32) (harg5 : arg5.IsWhole) (hc0 : ¬cond0_0 i) (hc1 : cond0_1 i)
    (x0 : Vec F S1x19x256x512 .f32) (x1 : Vec F S1x256x512 .i32) (xs0 : Vec F S2x19x8x512 .f32) :
    (kernelRun0_C c i arg2 harg2 arg3 harg3 arg4 harg4 arg5 harg5 hc0 hc1 x0 x1 xs0).2.1 = piecesB arg2 harg2 arg3 harg3 arg5 harg5 x0 x1 xs0 608 := by
  unfold kernelRun0_C
  dsimp only
  rfl

end Cert.KernelIdeal.Block

end
-- ==== Proof.Block.Final.lean ====
module

public import proofs.«01_k».proof.Proof.Block.Model
public import proofs.«01_k».proof.Proof.Gen.KernelIdeal.Frame.RunC
import all proofs.«01_k».proof.Proof.Gen.KernelIdeal.Frame.RunC

@[expose] public section

noncomputable section

/-! What the last grid point stores into the output, from the accumulators its own stores left. -/

namespace Cert.KernelIdeal.Block

open Cert.KernelIdeal Cert.KernelIdeal.Gen Idealize.ShloMosaic Idealize.ShloMosaic.TcCoe Idealize.SL Idealize.SL.Sem

variable {F : FTy → Type} [FloatOps F]

section
variable (R : ℕ → ℕ → Vec F S1x1x8x512 .f32)

/-- The sum of all the elements. -/
def total (v : FVec F S8x512 .f32) : F .f32 :=
  extractAt ![0, 0, 0] (shapeCast S1x1x1 (multiReduction .add [1, 2] S1 (shapeCast S1x8x512 v shapeCasts_S8x512_S1x8x512) 0x00000000#32 reduces_S1x8x512_S1 (.inl rfl) rfl) shapeCasts_S1_S1x1x1) inpos_S1x1x1_p0_0_0
/-- Plane `s` of class `c`, as rows and lanes. -/
def plane (s c : ℕ) : FVec F S8x512 .f32 := shapeCast S8x512 (R s c) shapeCasts_S1x1x8x512_S8x512
/-- The missed pixels of class `c`: the packed counts over 1024, rounded down. -/
def missed (c : ℕ) : FVec F S8x512 .f32 := floor (mulf (plane R 0 c) (broadcast S8x512 (Scalar.ofBits .f32 0x3A800000#32)))
/-- The pixels of class `c`: what the missed ones leave of the packed counts. -/
def pixels (c : ℕ) : FVec F S8x512 .f32 := subf (plane R 0 c) (mulf (missed R c) (broadcast S8x512 (Scalar.ofBits .f32 0x44800000#32)))
/-- A count, or one in place of none. -/
def orOne (x : F .f32) : F .f32 := Scalar.select (Scalar.cmpf .ogt x (Scalar.ofBits .f32 0x00000000#32)) x (Scalar.ofBits .f32 0x3F800000#32)
/-- What class `c` adds to the loss: missed over all pixels, times its cross entropies. -/
def term (c : ℕ) : F .f32 :=
  Scalar.mulf (Scalar.divf (orOne (total (missed R c))) (orOne (total (pixels R c)))) (total (plane R 1 c))
/-- The sum over the first `n + 1` classes. -/
def loss (n : ℕ) : F .f32 :=
  Nat.rec (Scalar.addf (Scalar.ofBits .f32 0x00000000#32) (term R 0)) (fun c p => Scalar.addf p (term R (c + 1))) n
/-- The mean over the pixels, everywhere. -/
def result : FVec F S8x128 .f32 := broadcast S8x128 (Scalar.mulf (loss R 18) (Scalar.ofBits .f32 0x35000000#32))
end

set_option maxRecDepth 65536 in
/-- The last point's run leaves in the output one piece, the mean loss everywhere. -/
theorem runC_out (c : Dev nD) (i : grid0.Coords) (arg2 : Memref sig .tc .vmem S1x19x256x512 .f32) (harg2 : arg2.IsWhole) (arg3 : Memref sig .tc .vmem S1x256x512 .i32) (harg3 : arg3.IsWhole) (arg4 : Memref sig .tc .vmem S8x128 .f32) (harg4 : arg4.IsWhole) (arg5 : Memref sig .tc .vmem S2x19x8x512 .f32) (harg5 : arg5.IsWhole) (hc0 : ¬cond0_0 i) (hc1 : cond0_1 i)
    (x0 : Vec F S1x19x256x512 .f32) (x1 : Vec F S1x256x512 .i32) (xs0 : Vec F S2x19x8x512 .f32) :
    (kernelRun0_C c i arg2 harg2 arg3 harg3 arg4 harg4 arg5 harg5 hc0 hc1 x0 x1 xs0).1 =
      [⟨Rect.unit ![0, 0] S8x128.size inb_S8x128_S8x128_0_0,
        result fun s c => arg5.view.readCov (piecesB arg2 harg2 arg3 harg3 arg5 harg5 x0 x1 xs0 608) (rectA s c).toLoadRect⟩] := by
  unfold kernelRun0_C
  dsimp only
  rfl

end Cert.KernelIdeal.Block

end
-- ==== Proof.Block.Sweep.lean ====
module

public import proofs.«01_k».proof.Proof.Block.Sum
public import proofs.«01_k».proof.Proof.Block.PiecesA
public import proofs.«01_k».proof.Proof.Block.PiecesB
public import proofs.«01_k».proof.Proof.Block.PiecesC
public import proofs.«01_k».proof.Proof.Block.Final
public import proofs.«01_k».proof.Proof.Gen.KernelIdeal.Frame
public import Idealize.ShloMosaic.Lib.Pipeline.ValueKit
public import Idealize.ShloMosaic.Lib.Claim

@[expose] public section

noncomputable section

/-! The accumulators after every grid point, as sums over the pixels of the arrays. -/

namespace Cert.KernelIdeal.Block

open Cert.KernelIdeal Cert.KernelIdeal.Gen Idealize.ShloMosaic Idealize.ShloMosaic.TcCoe Idealize.SL Idealize.SL.Sem

variable (m : (ℓ : Loc nD τ sig) → Buf (Elt Ideal) ℓ)

/-- What the first point leaves in the accumulators. -/
theorem scratch_first (c : Dev nD) (t : Fin cfg0.N) (h0 : t.val % 16 = 0) :
    (outsAt0 m c t.val t.isLt).2
      = st (rdX (ms0_0 t) (hs0_0 t) (iblk m c 0 t)) (rdT (ms0_1 t) (hs0_1 t) (iblk m c 1 t)) (fun _ => 0) 608 := by
  have h1 : ¬t.val % 16 = 15 := by omega
  rw [outsAt0_A m c t h0 h1]
  dsimp only
  unfold sout0_A_0
  rw [runA_pieces]
  exact (View.read_writes_junk_eq_canon _ _).trans (canon_piecesA _ _ _ _ _ _ _ 608)

/-- What every later point leaves, from what the point before left. -/
theorem scratch_later (c : Dev nD) (t : Fin cfg0.N) (h0 : ¬t.val % 16 = 0) :
    (outsAt0 m c t.val t.isLt).2
      = st (rdX (ms0_0 t) (hs0_0 t) (iblk m c 0 t)) (rdT (ms0_1 t) (hs0_1 t) (iblk m c 1 t))
          (outsAt0 m c (t.val - 1) (Nat.lt_of_le_of_lt (Nat.sub_le _ _) t.isLt)).2 608 := by
  by_cases h1 : t.val % 16 = 15
  · rw [outsAt0_C m c t h0 h1]
    dsimp only
    unfold sout0_C_0
    rw [runC_pieces]
    exact (View.read_writes_junk_eq_canon _ _).trans (canon_piecesB _ _ _ _ _ _ _ _ _)
  · rw [outsAt0_B m c t h0 h1]
    dsimp only
    unfold sout0_B_0
    rw [runB_pieces]
    exact (View.read_writes_junk_eq_canon _ _).trans (canon_piecesB _ _ _ _ _ _ _ _ _)

/-- A pixel's part, from the whole arrays: image `b`, row `q`, lane `l`. -/
def pxA (A0 : Vec Ideal S8x19x512x512 .f32) (A1 : Vec Ideal S8x512x512 .i32) (s c b q l : ℕ) : EReal :=
  pixS (fun k => A0 (ix4 (Fin.ofNat 8 b) (Fin.ofNat 19 k) (Fin.ofNat 512 q) (Fin.ofNat 512 l)))
    (A1 (ix3 (Fin.ofNat 8 b) (Fin.ofNat 512 q) (Fin.ofNat 512 l))) s c

/-- The windows' blocks at a point: half an image. -/
theorem idx (t : Fin cfg0.N) : win0_0.index t = ![t.val / 2, 0, t.val % 2, 0] ∧ win0_1.index t = ![t.val / 2, t.val % 2, 0] := by
  revert t
  decide +kernel

theorem iblk0 (c : Dev nD) (t : Fin cfg0.N) (k q l : ℕ) (hq : q < 256) :
    iblk m c 0 t (ix4 0 (Fin.ofNat 19 k) (Fin.ofNat 256 q) (Fin.ofNat 512 l))
      = m ((c : Thread nD τ).loc main_arg0) (ix4 (Fin.ofNat 8 (t.val / 2)) (Fin.ofNat 19 k) (Fin.ofNat 512 (256 * (t.val % 2) + q)) (Fin.ofNat 512 l)) := by
  have hN : t.val < 16 := lt_of_lt_of_eq t.isLt (show cfg0.N = 16 from N_0)
  blk_ext [iblk, V, idx t]
  all_goals simp only [Fin.ofNat]; omega

theorem iblk1 (c : Dev nD) (t : Fin cfg0.N) (q l : ℕ) (hq : q < 256) :
    iblk m c 1 t (ix3 0 (Fin.ofNat 256 q) (Fin.ofNat 512 l))
      = m ((c : Thread nD τ).loc main_arg1) (ix3 (Fin.ofNat 8 (t.val / 2)) (Fin.ofNat 512 (256 * (t.val % 2) + q)) (Fin.ofNat 512 l)) := by
  have hN : t.val < 16 := lt_of_lt_of_eq t.isLt (show cfg0.N = 16 from N_0)
  blk_ext [iblk, V, idx t]
  all_goals simp only [Fin.ofNat]; omega

theorem px0_iblk (c : Dev nD) (t : Fin cfg0.N) (s k q l : ℕ) (hq : q < 256) :
    px0 (iblk m c 0 t) (iblk m c 1 t) s k q l
      = pxA (m ((c : Thread nD τ).loc main_arg0)) (m ((c : Thread nD τ).loc main_arg1)) s k (t.val / 2) (256 * (t.val % 2) + q) l := by
  unfold px0 pxA
  rw [iblk1 m c t q l hq]
  congr 1
  funext k
  exact iblk0 m c t k q l hq

/-- The accumulators' cells after the last point: one part for each half image and each of its 32 rows. -/
theorem scratch_last (c : Dev nD) (y : S2x19x8x512.Idx) :
    (outsAt0 m c t0_15.val t0_15.isLt).2 y
      = ∑ p : Fin cfg0.N, ∑ j ∈ Finset.range 32,
          pxA (m ((c : Thread nD τ).loc main_arg0)) (m ((c : Thread nD τ).loc main_arg1)) (y 0 : ℕ) (y 1 : ℕ)
            (p.val / 2) (256 * (p.val % 2) + (8 * j + (row y : ℕ))) (lane y : ℕ) := by
  have hsum : ∀ t : Fin cfg0.N, ∑ j ∈ Finset.range 32, px0 (iblk m c 0 t) (iblk m c 1 t) (y 0 : ℕ) (y 1 : ℕ) (8 * j + row y) (lane y)
      = ∑ j ∈ Finset.range 32,
          pxA (m ((c : Thread nD τ).loc main_arg0)) (m ((c : Thread nD τ).loc main_arg1)) (y 0 : ℕ) (y 1 : ℕ)
            (t.val / 2) (256 * (t.val % 2) + (8 * j + (row y : ℕ))) (lane y : ℕ) := fun t =>
    Finset.sum_congr rfl fun j hj => px0_iblk m c t _ _ _ _ (by
      have := Finset.mem_range.1 hj
      have := (row y).isLt
      omega)
  rw [Pipeline.eq_sum_fin_of_reset_step_apply_last (fun n h => (outsAt0 m c n h).2) 16 (fun _ => 0)
    (fun t y => ∑ j ∈ Finset.range 32, px0 (iblk m c 0 t) (iblk m c 1 t) (y 0 : ℕ) (y 1 : ℕ) (8 * j + row y) (lane y))
    (fun t h y => (congrFun (scratch_first m c t h) y).trans (point_apply _ _ _ _ _ _ _ y))
    (fun t h y => (congrFun (scratch_later m c t h) y).trans (point_apply _ _ _ _ _ _ _ y))
    (le_of_eq N_0) t0_15 rfl y, zero_add]
  exact Finset.sum_congr rfl fun t _ => hsum t

/-- What the accumulators hold at the end, read one plane of one class at a time. -/
def acc (A0 : Vec Ideal S8x19x512x512 .f32) (A1 : Vec Ideal S8x512x512 .i32) (s c : ℕ) : Vec Ideal S1x1x8x512 .f32 := fun y =>
  ∑ p : Fin cfg0.N, ∑ j ∈ Finset.range 32, pxA A0 A1 (s % 2) (c % 19) (p.val / 2) (256 * (p.val % 2) + (8 * j + (y 2 : ℕ))) (y 3 : ℕ)

/-- What the last point reads of the accumulators after its own stores. -/
theorem read_last (c : Dev nD) (s k : ℕ) :
    View.readCov scM0_0.view (piecesB (ms0_0 t0_15) (hs0_0 t0_15) (ms0_1 t0_15) (hs0_1 t0_15) scM0_0 (Memref.isWhole_whole _) (iblk m c 0 t0_15) (iblk m c 1 t0_15)
        (outsAt0 m c (t0_15.val - 1) (Nat.lt_of_le_of_lt (Nat.sub_le _ _) t0_15.isLt)).2 608) (rectA s k).toLoadRect
      = acc (m ((c : Thread nD τ).loc main_arg0)) (m ((c : Thread nD τ).loc main_arg1)) s k := by
  funext y
  have e : ∀ y : S1x1x8x512.Idx, y = ix4 (0 : Fin 1) (0 : Fin 1) (y 2) (y 3) := fun y => by
    funext a
    match a with
    | 0 => exact Subsingleton.elim (α := Fin 1) _ _
    | 1 => exact Subsingleton.elim (α := Fin 1) _ _
    | 2 => rfl
    | 3 => rfl
  refine (congrArg _ (e y)).trans ?_
  refine (readCov_piecesB _ _ _ _ _ _ _ _ _ s k (y 2) (y 3)).trans ?_
  refine (congrFun (scratch_later m c t0_15 (by decide)).symm _).trans ?_
  refine (scratch_last m c _).trans ?_
  have v0 : (((rectA s k).emb (ix4 (0 : Fin 1) (0 : Fin 1) (y 2) (y 3)) 0 : Fin 2) : ℕ) = s % 2 := by
    show s % 2 + 1 * 0 = _; omega
  have v1 : (((rectA s k).emb (ix4 (0 : Fin 1) (0 : Fin 1) (y 2) (y 3)) 1 : Fin 19) : ℕ) = k % 19 := by
    show k % 19 + 1 * 0 = _; omega
  have v2 : ((row ((rectA s k).emb (ix4 (0 : Fin 1) (0 : Fin 1) (y 2) (y 3))) : Fin 8) : ℕ) = (y 2 : ℕ) := by
    show 0 + 1 * (y 2 : ℕ) = _; omega
  have v3 : ((lane ((rectA s k).emb (ix4 (0 : Fin 1) (0 : Fin 1) (y 2) (y 3))) : Fin 512) : ℕ) = (y 3 : ℕ) := by
    show 0 + 1 * (y 3 : ℕ) = _; omega
  rw [v0, v1, v2, v3]
  rfl

/-- What the last point stores. -/
theorem out_last (c : Dev nD) :
    (outsAt0 m c t0_15.val t0_15.isLt).1
      = result (acc (m ((c : Thread nD τ).loc main_arg0)) (m ((c : Thread nD τ).loc main_arg1))) := by
  rw [outsAt0_C m c t0_15 (by decide) (by decide)]
  dsimp only
  unfold out0_C_2
  rw [runC_out]
  refine (View.read_writes_junk_eq_canon _ _).trans ?_
  rw [View.canon_unit_zero (by decide)]
  exact congrArg result (funext fun s => funext fun k => read_last m c s k)

/-- The output array at the end. -/
theorem final_out (c : Dev nD) :
    (dats m 0 c).arrAt 2 cfg0.N
      = result (acc (m ((c : Thread nD τ).loc main_arg0)) (m ((c : Thread nD τ).loc main_arg1))) := by
  refine (dats m 0 c).arrAt_eq_of_after_last 2 t0_15 (by decide +kernel) _ fun j => ?_
  blk_simp
  exact congrFun ((after0_2 m c t0_15).trans (out_last m c)) j

/-- The kernel's run: the result is the mean loss of the accumulated sums, the arguments are unchanged. -/
theorem run (ρ : Dev nD → PrngReg) (X : Dev nD → EReal)
    (hX : ∀ c : Dev nD, Scalar.mulf (loss (acc (m ((c : Thread nD τ).loc main_arg0)) (m ((c : Thread nD τ).loc main_arg1))) 18) (Scalar.ofBits .f32 0x35000000#32) = X c) :
    θ_run defs (onTc (τ := τ) (main (F := Ideal))) ⟨m, fun _ => 0, ρ⟩ fun r => ∀ c : Dev nD,
      r.2.mem ((c : Thread nD τ).loc main_v2) = (fun _ => X c)
      ∧ r.2.mem ((c : Thread nD τ).loc main_arg0) = m ((c : Thread nD τ).loc main_arg0)
      ∧ r.2.mem ((c : Thread nD τ).loc main_arg1) = m ((c : Thread nD τ).loc main_arg1) := by
  run_from run_main m ρ
  unfold Pipeline.afterTail₀
  simp only [hostOps1, List.flatten_cons, List.flatten_nil, List.append_nil]
  after_results
  erw [Pipeline.withArrays_arr (cfgs 0).spec (by decide) c (V0 m c) (fun w => (dats m 0 c).arrAt w (cfgs 0).N) 2]
  rw [show (dats m 0 c).arrAt 2 (cfgs 0).N = _ from final_out m c]
  funext i
  exact hX c

end Cert.KernelIdeal.Block

end
-- ==== Proof.Math.Regroup.lean ====
module

public import Mathlib.Algebra.BigOperators.Intervals
public import Mathlib.Data.EReal.Inv
public import Mathlib.Algebra.BigOperators.Fin

@[expose] public section

noncomputable section

/-! Sums over the pixels, in the order of the grid and in the order of the flat index. -/

namespace Cert.Math

/-- A sum over `a * b` indices as a sum of `a` sums of `b`. -/
theorem sum_mul_range {M : Type} [AddCommMonoid M] (f : ℕ → M) (a b : ℕ) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- The cells' sums over the half images and rows together are one sum over all the pixels, taken flat. -/
theorem sum_cells {M : Type} [AddCommMonoid M] (g : ℕ → ℕ → ℕ → M) :
    ∑ r : Fin 8, ∑ l : Fin 512, ∑ p : Fin 16, ∑ j ∈ Finset.range 32,
        g (p.val / 2) (256 * (p.val % 2) + (8 * j + r.val)) l.val
      = ∑ n ∈ Finset.range 2097152, g (n / 262144) (n / 512 % 512) (n % 512) := by
  rw [show (2097152 : ℕ) = 16 * 32 * 8 * 512 from rfl, sum_mul_range, sum_mul_range, sum_mul_range]
  rw [Fin.sum_univ_eq_sum_range (fun r => ∑ l : Fin 512, ∑ p : Fin 16, ∑ j ∈ Finset.range 32, g (p.val / 2) (256 * (p.val % 2) + (8 * j + r)) l.val) 8]
  have e : ∀ r, ∑ l : Fin 512, ∑ p : Fin 16, ∑ j ∈ Finset.range 32, g (p.val / 2) (256 * (p.val % 2) + (8 * j + r)) l.val
      = ∑ p ∈ Finset.range 16, ∑ j ∈ Finset.range 32, ∑ l ∈ Finset.range 512, g (p / 2) (256 * (p % 2) + (8 * j + r)) l := fun r => by
    rw [Fin.sum_univ_eq_sum_range (fun l => ∑ p : Fin 16, ∑ j ∈ Finset.range 32, g (p.val / 2) (256 * (p.val % 2) + (8 * j + r)) l) 512,
      Finset.sum_congr rfl fun l _ => Fin.sum_univ_eq_sum_range (fun p => ∑ j ∈ Finset.range 32, g (p / 2) (256 * (p % 2) + (8 * j + r)) l) 16,
      Finset.sum_comm]
    exact Finset.sum_congr rfl fun p _ => Finset.sum_comm
  rw [Finset.sum_congr rfl fun r _ => e r, Finset.sum_comm]
  refine Finset.sum_congr rfl fun p hp => ?_
  rw [Finset.sum_comm]
  refine Finset.sum_congr rfl fun j hj => Finset.sum_congr rfl fun r hr => Finset.sum_congr rfl fun l hl => ?_
  rw [Finset.mem_range] at hp hj hr hl
  congr 1 <;> omega

/-- A finite factor that is not negative goes over a sum of extended reals. -/
theorem mul_sum_of_nonneg {ι : Type} (s : Finset ι) (f : ι → EReal) (w : EReal) (h0 : 0 ≤ w) (h1 : w ≠ ⊤) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 h1, ih]

end Cert.Math

end
-- ==== Proof.Math.Spec.lean ====
module

public import proofs.«01_k».proof.Proof.Math.Scalar
public import proofs.«01_k».proof.Proof.Math.Regroup
public import proofs.«01_k».proof.Proof.Block.Sum

@[expose] public section

noncomputable section

/-! The loss as a formula over the pixels, taken flat: what both programs compute. -/

namespace Cert.Math

open Idealize.ShloMosaic Cert.KernelIdeal.Block

/-- One if the pixel is labelled `c`. -/
def isC (t : BitVec 32) (c : ℕ) : ℕ := if t = BitVec.ofNat 32 c then 1 else 0
/-- One if the pixel is labelled `c` and another class is ahead of `c`. -/
def isMiss (v : ℕ → EReal) (t : BitVec 32) (c : ℕ) : ℕ := if t = BitVec.ofNat 32 c then (if v c < topS v 18 then 1 else 0) else 0

theorem isC_le (t : BitVec 32) (c : ℕ) : isC t c ≤ 1 := by unfold isC; split <;> decide
theorem isMiss_le (v : ℕ → EReal) (t : BitVec 32) (c : ℕ) : isMiss v t c ≤ 1 := by unfold isMiss; (repeat' split) <;> decide

/-- The packed count of a pixel. -/
theorem cntS_eq (v : ℕ → EReal) (t : BitVec 32) (c : ℕ) : cntS v t c = ((isC t c + 1024 * isMiss v t c : ℕ) : EReal) := by
  unfold cntS isC isMiss
  rw [c1024]
  have h : ((1024 : ℝ) : EReal) = (1024 : ℕ) := by rw [← EReal.coe_natCast]; norm_num
  rw [h]
  repeat' split
  · exact_mod_cast rfl
  all_goals simp

/-- A number, or one in place of none. -/
def orOneN (n : ℕ) : ℕ := if 0 < n then n else 1

theorem orOneN_pos (n : ℕ) : 0 < orOneN n := by unfold orOneN; split <;> omega

section
variable (V : ℕ → ℕ → EReal) (T : ℕ → BitVec 32)

/-- The pixels labelled `c`. -/
def labelled (c : ℕ) : ℕ := ∑ n ∈ Finset.range 2097152, isC (T n) c
/-- The missed pixels labelled `c`. -/
def miss (c : ℕ) : ℕ := ∑ n ∈ Finset.range 2097152, isMiss (V n) (T n) c
/-- The weight of class `c`. -/
def weight (c : ℕ) : EReal := Ideal.div (orOneN (miss V T c) : EReal) (orOneN (labelled T c) : EReal)
/-- The cross entropies of class `c`. -/
def ceSum (c : ℕ) : EReal := ∑ n ∈ Finset.range 2097152, cepS (V n) (T n) c
/-- The mean of the weighted cross entropies, class by class. -/
def spec : EReal := (∑ c ∈ Finset.range 19, weight V T c * ceSum V T c) * Ideal.ofBits .f32 0x35000000#32

theorem weight_eq (c : ℕ) : weight V T c = (((orOneN (miss V T c) : ℝ) / (orOneN (labelled T c) : ℝ) : ℝ) : EReal) := by
  unfold weight Ideal.div
  have h : (orOneN (labelled T c) : EReal) ≠ 0 := by
    have := orOneN_pos (labelled T c)
    exact_mod_cast this.ne'
  rw [if_neg h, ← EReal.coe_natCast, ← EReal.coe_natCast, ← EReal.coe_inv, ← EReal.coe_mul, div_eq_mul_inv]

theorem weight_nonneg (c : ℕ) : 0 ≤ weight V T c := by
  rw [weight_eq]; exact_mod_cast (by positivity : (0 : ℝ) ≤ (orOneN (miss V T c) : ℝ) / (orOneN (labelled T c) : ℝ))

theorem weight_ne_top (c : ℕ) : weight V T c ≠ ⊤ := by
  rw [weight_eq]; exact EReal.coe_ne_top _

end

/-- The packed counts of a cell, over 1024 and rounded down, are the missed pixels. -/
theorem floor_packed (G F : ℕ) (h : G < 1024) :
    Ideal.liftRound Int.floor (((G + 1024 * F : ℕ) : EReal) * Ideal.ofBits .f32 0x3A800000#32) = (F : EReal) := by
  rw [cInv1024, ← EReal.coe_natCast, ← EReal.coe_mul]
  show (((⌊((G + 1024 * F : ℕ) : ℝ) * (1 / 1024)⌋ : ℤ) : ℝ) : EReal) = _
  have hf : ⌊((G + 1024 * F : ℕ) : ℝ) * (1 / 1024)⌋ = (F : ℤ) := by
    rw [Int.floor_eq_iff]
    have hG : (G : ℝ) < 1024 := by exact_mod_cast h
    have hG0 : (0 : ℝ) ≤ G := by positivity
    push_cast
    constructor <;> linarith
  rw [hf]
  simp

/-- What the missed ones leave. -/
theorem packed_sub (G F : ℕ) : ((G + 1024 * F : ℕ) : EReal) - (F : EReal) * Ideal.ofBits .f32 0x44800000#32 = (G : EReal) := by
  rw [c1024, ← EReal.coe_natCast, ← EReal.coe_natCast, ← EReal.coe_natCast, ← EReal.coe_mul, ← EReal.coe_sub]
  congr 1
  push_cast
  ring

/-- A count, or one in place of none, as the programs choose it. -/
theorem orOne_nat (n : ℕ) :
    Scalar.select (Ideal.cmp .ogt (n : EReal) (Ideal.ofBits .f32 0x00000000#32)) (n : EReal) (Ideal.ofBits .f32 0x3F800000#32) = (orOneN n : EReal) := by
  rw [select_ogt, Ideal.ofBits_zero_f32]
  unfold orOneN
  have h1 : Ideal.ofBits .f32 0x3F800000#32 = 1 := by
    rw [← EReal.coe_one]
    simp [Ideal.ofBits, Ideal.ieee, -EReal.coe_mul, -EReal.coe_one]; norm_num
  rw [h1]
  by_cases h : 0 < n
  · rw [if_pos h, if_pos (by exact_mod_cast h)]
  · rw [if_neg h, if_neg (by exact_mod_cast h)]; simp

end Cert.Math

end
-- ==== Proof.Block.Value.lean ====
module

public import proofs.«01_k».proof.Proof.Block.Sweep
public import proofs.«01_k».proof.Proof.Math.Spec

@[expose] public section

noncomputable section

/-! The last point's scalar arithmetic, as the formula over the pixels. -/

namespace Cert.KernelIdeal.Block

open Cert.KernelIdeal Cert.KernelIdeal.Gen Idealize.ShloMosaic Cert.Math

/-- The sum of all the elements, row by row. -/
theorem total_eq (v : FVec Ideal S8x512 .f32) : total v = ∑ r : Fin 8, ∑ l : Fin 512, v (ix2 r l) := by
  unfold total
  pointwise [extractAt, shapeCast]

section
variable (A0 : Vec Ideal S8x19x512x512 .f32) (A1 : Vec Ideal S8x512x512 .i32)

/-- The logits of the pixel of flat index `n`. -/
def logits (n k : ℕ) : EReal :=
  A0 (ix4 (Fin.ofNat 8 (n / 262144)) (Fin.ofNat 19 k) (Fin.ofNat 512 (n / 512 % 512)) (Fin.ofNat 512 (n % 512)))
/-- Its label. -/
def label (n : ℕ) : BitVec 32 :=
  A1 (ix3 (Fin.ofNat 8 (n / 262144)) (Fin.ofNat 512 (n / 512 % 512)) (Fin.ofNat 512 (n % 512)))

/-- A cell of a plane. -/
theorem plane_apply (s c : ℕ) (r : Fin 8) (l : Fin 512) :
    plane (acc A0 A1) s c (ix2 r l) = ∑ p : Fin cfg0.N, ∑ j ∈ Finset.range 32, pxA A0 A1 (s % 2) (c % 19) (p.val / 2) (256 * (p.val % 2) + (8 * j + r.val)) l.val := by
  unfold plane
  pointwise
  rfl

/-- The logits of a pixel by its image, row and lane. -/
def lgA (b q l k : ℕ) : EReal := A0 (ix4 (Fin.ofNat 8 b) (Fin.ofNat 19 k) (Fin.ofNat 512 q) (Fin.ofNat 512 l))
/-- Its label. -/
def lbA (b q l : ℕ) : BitVec 32 := A1 (ix3 (Fin.ofNat 8 b) (Fin.ofNat 512 q) (Fin.ofNat 512 l))

/-- The pixels of a cell that are labelled `c`. -/
def cellC (c r l : ℕ) : ℕ := ∑ p : Fin 16, ∑ j ∈ Finset.range 32, isC (lbA A1 (p.val / 2) (256 * (p.val % 2) + (8 * j + r)) l) c
/-- The missed ones among them. -/
def cellM (c r l : ℕ) : ℕ :=
  ∑ p : Fin 16, ∑ j ∈ Finset.range 32,
    isMiss (lgA A0 (p.val / 2) (256 * (p.val % 2) + (8 * j + r)) l) (lbA A1 (p.val / 2) (256 * (p.val % 2) + (8 * j + r)) l) c

theorem cellC_lt (c r l : ℕ) : cellC A1 c r l < 1024 := by
  have h : cellC A1 c r l ≤ ∑ p : Fin 16, ∑ j ∈ Finset.range 32, 1 :=
    Finset.sum_le_sum fun p _ => Finset.sum_le_sum fun j _ => isC_le _ _
  simp at h
  omega

/-- A cell of the packed counts. -/
theorem plane_count (c : ℕ) (hc : c < 19) (r : Fin 8) (l : Fin 512) :
    plane (acc A0 A1) 0 c (ix2 r l) = ((cellC A1 c r l + 1024 * cellM A0 A1 c r l : ℕ) : EReal) := by
  rw [plane_apply, Nat.mod_eq_of_lt hc]
  unfold cellC cellM
  rw [Finset.mul_sum, ← Finset.sum_add_distrib, Nat.cast_sum]
  refine Finset.sum_congr rfl fun p _ => ?_
  rw [Finset.mul_sum, ← Finset.sum_add_distrib, Nat.cast_sum]
  exact Finset.sum_congr rfl fun j _ => cntS_eq (lgA A0 (p.val / 2) (256 * (p.val % 2) + (8 * j + r.val)) l.val) (lbA A1 (p.val / 2) (256 * (p.val % 2) + (8 * j + r.val)) l.val) c

theorem missed_apply (c : ℕ) (hc : c < 19) (r : Fin 8) (l : Fin 512) :
    missed (acc A0 A1) c (ix2 r l) = (cellM A0 A1 c r l : EReal) := by
  have h : missed (acc A0 A1) c (ix2 r l)
      = Ideal.liftRound Int.floor (plane (acc A0 A1) 0 c (ix2 r l) * Ideal.ofBits .f32 0x3A800000#32) := rfl
  rw [h, plane_count A0 A1 c hc, floor_packed _ _ (cellC_lt A1 c r l)]

theorem pixels_apply (c : ℕ) (hc : c < 19) (r : Fin 8) (l : Fin 512) :
    pixels (acc A0 A1) c (ix2 r l) = (cellC A1 c r l : EReal) := by
  have h : pixels (acc A0 A1) c (ix2 r l)
      = plane (acc A0 A1) 0 c (ix2 r l) - missed (acc A0 A1) c (ix2 r l) * Ideal.ofBits .f32 0x44800000#32 := rfl
  rw [h, plane_count A0 A1 c hc, missed_apply A0 A1 c hc, packed_sub]

theorem total_missed (c : ℕ) (hc : c < 19) : total (missed (acc A0 A1) c) = (miss (logits A0) (label A1) c : EReal) := by
  rw [total_eq, Finset.sum_congr rfl fun r _ => Finset.sum_congr rfl fun l _ => missed_apply A0 A1 c hc r l]
  rw [Finset.sum_congr rfl fun r _ => (Nat.cast_sum _ _).symm, ← Nat.cast_sum]
  exact congrArg _ (sum_cells fun b q l => isMiss (lgA A0 b q l) (lbA A1 b q l) c)

theorem total_pixels (c : ℕ) (hc : c < 19) : total (pixels (acc A0 A1) c) = (labelled (label A1) c : EReal) := by
  rw [total_eq, Finset.sum_congr rfl fun r _ => Finset.sum_congr rfl fun l _ => pixels_apply A0 A1 c hc r l]
  rw [Finset.sum_congr rfl fun r _ => (Nat.cast_sum _ _).symm, ← Nat.cast_sum]
  exact congrArg _ (sum_cells fun b q l => isC (lbA A1 b q l) c)

theorem total_cep (c : ℕ) (hc : c < 19) : total (plane (acc A0 A1) 1 c) = ceSum (logits A0) (label A1) c := by
  rw [total_eq, Finset.sum_congr rfl fun r _ => Finset.sum_congr rfl fun l _ => plane_apply A0 A1 1 c r l, Nat.mod_eq_of_lt hc]
  exact sum_cells fun b q l => cepS (lgA A0 b q l) (lbA A1 b q l) c

theorem term_eq (c : ℕ) (hc : c < 19) :
    term (acc A0 A1) c = weight (logits A0) (label A1) c * ceSum (logits A0) (label A1) c := by
  unfold term
  rw [total_missed A0 A1 c hc, total_pixels A0 A1 c hc, total_cep A0 A1 c hc]
  unfold orOne
  exact congrArg (· * _) (congrArg₂ Ideal.div (orOne_nat _) (orOne_nat _))

theorem loss_eq (n : ℕ) (hn : n < 19) :
    loss (acc A0 A1) n = ∑ c ∈ Finset.range (n + 1), weight (logits A0) (label A1) c * ceSum (logits A0) (label A1) c := by
  induction n with
  | zero =>
    rw [Finset.sum_range_one, ← term_eq A0 A1 0 hn]
    show Ideal.ofBits .f32 0x00000000#32 + term (acc A0 A1) 0 = _
    rw [Ideal.ofBits_zero_f32, zero_add]
  | succ n ih =>
    rw [Finset.sum_range_succ, ← ih (by omega), ← term_eq A0 A1 (n + 1) hn]
    rfl

/-- The kernel's value. -/
theorem value_eq : Scalar.mulf (loss (acc A0 A1) 18) (Scalar.ofBits .f32 0x35000000#32) = spec (logits A0) (label A1) :=
  congrArg (· * _) (loss_eq A0 A1 18 (by decide))

end

end Cert.KernelIdeal.Block

end
-- ==== Proof.Ref.Run.lean ====
/- The reference program as the list of its 130 host operations, and its run: every fair execution ends with the
   result buffer holding the operations' composed term of the arguments' contents, and with the arguments unchanged.
   The arg-max is the one operation whose function takes its result index as an argument of its own. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 130 operations, in order (a called function's operations stand in its call's place, spelt `TRef.…`). -/
abbrev ops : List (HloOp τ sig (Elt F)) :=
  [ TRef.nullary (TRef.of (T := ⟨S8x19x512x512, .i32⟩) main_call0_v0) (iotaInDim S8x19x512x512 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .f32⟩) main_call0_v1_0) (fun x y u v j => (Host.argReduce reducer_argmax_f32_i32 x y u v reducesTo_S8x19x512x512_S8x512x512_d1 h_S_ j).1),
    TRef.quaternary (TRef.of (T := ⟨S8x19x512x512, .f32⟩) main_arg0) (TRef.of (T := ⟨S8x19x512x512, .i32⟩) main_call0_v0) (TRef.of (T := ⟨S_, .f32⟩) main_call0_cst) (TRef.of (T := ⟨S_, .i32⟩) main_call0_c) (TRef.of (T := ⟨S8x512x512, .i32⟩) main_v0) (fun x y u v j => (Host.argReduce reducer_argmax_f32_i32 x y u v reducesTo_S8x19x512x512_S8x512x512_d1 h_S_ j).2),
    binary main_v0 main_arg1 main_v1 (cmpi .ne : (⟨S8x512x512, .i32⟩ : BufTy).Contents (Elt F) → (⟨S8x512x512, .i32⟩ : BufTy).Contents (Elt F) → (⟨S8x512x512, .i1⟩ : BufTy).Contents (Elt F)),
    reshape main_v1 main_v2 (rfl : (.i1 : EltTy) = .i1) shapeCasts_S8x512x512_S2097152,
    reshape main_arg1 main_v3 (rfl : (.i32 : EltTy) = .i32) shapeCasts_S8x512x512_S2097152,
    nullary main_c (constantI S_ 32 0#32),
    unary main_c main_v4 (broadcastInDim S256 ![] bcast_S_S256 : (⟨S_, .i32⟩ : BufTy).Contents (Elt F) → (⟨S256, .i32⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v3) (TRef.of (T := ⟨S2097152, .i32⟩) main_v5) maxsi,
    nullary main_c_1 (constantI S_ 32 0#32),
    unary main_c_1 main_v6 (broadcastInDim S2097152 ![] bcast_S_S2097152 : (⟨S_, .i32⟩ : BufTy).Contents (Elt F) → (⟨S2097152, .i32⟩ : BufTy).Contents (Elt F)),
    binary main_v5 main_v6 main_v7 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 256#32),
    unary main_c_2 main_v8 (broadcastInDim S2097152 ![] bcast_S_S2097152 : (⟨S_, .i32⟩ : BufTy).Contents (Elt F) → (⟨S2097152, .i32⟩ : BufTy).Contents (Elt F)),
    binary main_v5 main_v8 main_v9 (addi : (⟨S2097152, .i32⟩ : BufTy).Contents (Elt F) → (⟨S2097152, .i32⟩ : BufTy).Contents (Elt F) → (⟨S2097152, .i32⟩ : BufTy).Contents (Elt F)),
    ternary main_v7 main_v9 main_v5 main_v10 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v10 main_v11 (broadcastInDim S2097152x1 ![0] bcast_S2097152_S2097152x1_0 : (⟨S2097152, .i32⟩ : BufTy).Contents (Elt F) → (⟨S2097152x1, .i32⟩ : BufTy).Contents (Elt F)),
    nullary main_c_3 (constantI S_ 32 1#32),
    unary main_c_3 main_v12 (broadcastInDim S2097152 ![] bcast_S_S2097152 : (⟨S_, .i32⟩ : BufTy).Contents (Elt F) → (⟨S2097152, .i32⟩ : BufTy).Contents (Elt F)),
    ternary main_v4 main_v11 main_v12 main_v13 ((fun x i u => Host.scatter scatter_S256_S2097152x1_S2097152_n_0_0_1 IntOp.addi x i u) : (⟨S256, .i32⟩ : BufTy).Contents (Elt F) → (⟨S2097152x1, .i32⟩ : BufTy).Contents (Elt F) → (⟨S2097152, .i32⟩ : BufTy).Contents (Elt F) → (⟨S256, .i32⟩ : BufTy).Contents (Elt F)),
    unary main_v13 main_v14 (sitofp .f32 : (⟨S256, .i32⟩ : BufTy).Contents (Elt F) → (⟨S256, .f32⟩ : BufTy).Contents (Elt F)),
    nullary main_cst (constant S_ .f32 0x00000000#32),
    unary main_cst main_v15 (broadcastInDim S256 ![] bcast_S_S256 : (⟨S_, .f32⟩ : BufTy).Contents (Elt F) → (⟨S256, .f32⟩ : BufTy).Contents (Elt F)),
    binary main_v14 main_v15 main_v16 (cmpf .ogt : (⟨S256, .f32⟩ : BufTy).Contents (Elt F) → (⟨S256, .f32⟩ : BufTy).Contents (Elt F) → (⟨S256, .i1⟩ : BufTy).Contents (Elt F)),
    nullary main_cst_4 (constant S_ .f32 0x3F800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S256, .f32⟩) main_call2_v1) (broadcastInDim S256 ![] bcast_S_S256),
    TRef.ternary (TRef.of (T := ⟨S256, .i1⟩) main_v16) (TRef.of (T := ⟨S256, .f32⟩) main_v14) (TRef.of (T := ⟨S256, .f32⟩) main_call2_v1) (TRef.of (T := ⟨S256, .f32⟩) main_v17) select,
    unary main_v2 main_v18 (uitofp .f32 : (⟨S2097152, .i1⟩ : BufTy).Contents (Elt F) → (⟨S2097152, .f32⟩ : BufTy).Contents (Elt F)),
    nullary main_cst_5 (constant S_ .f32 0x00000000#32),
    unary main_cst_5 main_v19 (broadcastInDim S256 ![] bcast_S_S256 : (⟨S_, .f32⟩ : BufTy).Contents (Elt F) → (⟨S256, .f32⟩ : BufTy).Contents (Elt F)),
    nullary main_c_6 (constantI S_ 32 0#32),
    TRef.unary (TRef.of (T := ⟨S_, .i32⟩) main_c_6) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v3) (TRef.of (T := ⟨S2097152, .i32⟩) main_v20) maxsi,
    nullary main_c_7 (constantI S_ 32 0#32),
    unary main_c_7 main_v21 (broadcastInDim S2097152 ![] bcast_S_S2097152 : (⟨S_, .i32⟩ : BufTy).Contents (Elt F) → (⟨S2097152, .i32⟩ : BufTy).Contents (Elt F)),
    binary main_v20 main_v21 main_v22 (cmpi .slt : (⟨S2097152, .i32⟩ : BufTy).Contents (Elt F) → (⟨S2097152, .i32⟩ : BufTy).Contents (Elt F) → (⟨S2097152, .i1⟩ : BufTy).Contents (Elt F)),
    nullary main_c_8 (constantI S_ 32 256#32),
    unary main_c_8 main_v23 (broadcastInDim S2097152 ![] bcast_S_S2097152 : (⟨S_, .i32⟩ : BufTy).Contents (Elt F) → (⟨S2097152, .i32⟩ : BufTy).Contents (Elt F)),
    binary main_v20 main_v23 main_v24 (addi : (⟨S2097152, .i32⟩ : BufTy).Contents (Elt F) → (⟨S2097152, .i32⟩ : BufTy).Contents (Elt F) → (⟨S2097152, .i32⟩ : BufTy).Contents (Elt F)),
    ternary main_v22 main_v24 main_v20 main_v25 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v25 main_v26 (broadcastInDim S2097152x1 ![0] bcast_S2097152_S2097152x1_0 : (⟨S2097152, .i32⟩ : BufTy).Contents (Elt F) → (⟨S2097152x1, .i32⟩ : BufTy).Contents (Elt F)),
    ternary main_v19 main_v26 main_v18 main_v27 ((fun x i u => Host.scatterAdd scatter_S256_S2097152x1_S2097152_n_0_0_1 x i u) : (⟨S256, .f32⟩ : BufTy).Contents (Elt F) → (⟨S2097152x1, .i32⟩ : BufTy).Contents (Elt F) → (⟨S2097152, .f32⟩ : BufTy).Contents (Elt F) → (⟨S256, .f32⟩ : BufTy).Contents (Elt F)),
    nullary main_cst_9 (constant S_ .f32 0x00000000#32),
    unary main_cst_9 main_v28 (broadcastInDim S256 ![] bcast_S_S256 : (⟨S_, .f32⟩ : BufTy).Contents (Elt F) → (⟨S256, .f32⟩ : BufTy).Contents (Elt F)),
    binary main_v27 main_v28 main_v29 (cmpf .ogt : (⟨S256, .f32⟩ : BufTy).Contents (Elt F) → (⟨S256, .f32⟩ : BufTy).Contents (Elt F) → (⟨S256, .i1⟩ : BufTy).Contents (Elt F)),
    nullary main_cst_10 (constant S_ .f32 0x3F800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S256, .f32⟩) main_call4_v1) (broadcastInDim S256 ![] bcast_S_S256),
    TRef.ternary (TRef.of (T := ⟨S256, .i1⟩) main_v29) (TRef.of (T := ⟨S256, .f32⟩) main_v27) (TRef.of (T := ⟨S256, .f32⟩) main_call4_v1) (TRef.of (T := ⟨S256, .f32⟩) main_v30) select,
    binary main_v30 main_v17 main_v31 (Host.divf : (⟨S256, .f32⟩ : BufTy).Contents (Elt F) → (⟨S256, .f32⟩ : BufTy).Contents (Elt F) → (⟨S256, .f32⟩ : BufTy).Contents (Elt F)),
    nullary main_c_11 (constantI S_ 32 255#32),
    unary main_c_11 main_v32 (broadcastInDim S1 ![] bcast_S_S1 : (⟨S_, .i32⟩ : BufTy).Contents (Elt F) → (⟨S1, .i32⟩ : BufTy).Contents (Elt F)),
    nullary main_cst_12 (constant S_ .f32 0x00000000#32),
    ternary main_v31 main_v32 main_cst_12 main_v33 ((fun x i u => Host.scatter scatter_S256_S1_S__n_0_0_0 (fun _ b => b) x i u) : (⟨S256, .f32⟩ : BufTy).Contents (Elt F) → (⟨S1, .i32⟩ : BufTy).Contents (Elt F) → (⟨S_, .f32⟩ : BufTy).Contents (Elt F) → (⟨S256, .f32⟩ : BufTy).Contents (Elt F)),
    TRef.nullary (TRef.of (T := ⟨S_, .f32⟩) main_call5_cst) (constant S_ .f32 0xFF800000#32),
    TRef.binary (TRef.of (T := ⟨S8x19x512x512, .f32⟩) main_arg0) (TRef.of (T := ⟨S_, .f32⟩) main_call5_cst) (TRef.of (T := ⟨S8x512x512, .f32⟩) main_call5_v0) (fun x v => Host.reduce FloatOps.maximumf x v reducesTo_S8x19x512x512_S8x512x512_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S8x512x512, .f32⟩) main_call5_v1) (broadcastInDim S8x512x512 ![] bcast_S_S8x512x512),
    TRef.binary (TRef.of (T := ⟨S8x512x512, .f32⟩) main_call5_v1) (TRef.of (T := ⟨S8x512x512, .f32⟩) main_call5_v0) (TRef.of (T := ⟨S8x512x512, .f32⟩) main_call5_v2) maximumf,
    TRef.unary (TRef.of (T := ⟨S8x512x512, .f32⟩) main_call5_v2) (TRef.of (T := ⟨S8x1x512x512, .f32⟩) main_call5_v3) (broadcastInDim S8x1x512x512 ![0, 2, 3] bcast_S8x512x512_S8x1x512x512_0_2_3),
    TRef.unary (TRef.of (T := ⟨S8x1x512x512, .f32⟩) main_call5_v3) (TRef.of (T := ⟨S8x19x512x512, .f32⟩) main_call5_v4) (broadcastInDim S8x19x512x512 ![0, 1, 2, 3] bcast_S8x1x512x512_S8x19x512x512_0_1_2_3),
    TRef.binary (TRef.of (T := ⟨S8x19x512x512, .f32⟩) main_arg0) (TRef.of (T := ⟨S8x19x512x512, .f32⟩) main_call5_v4) (TRef.of (T := ⟨S8x19x512x512, .f32⟩) main_call5_v5) subf,
    TRef.unary (TRef.of (T := ⟨S8x19x512x512, .f32⟩) main_call5_v5) (TRef.of (T := ⟨S8x19x512x512, .f32⟩) main_call5_v6) Host.exp,
    TRef.nullary (TRef.of (T := ⟨S_, .f32⟩) main_call5_cst_1) (constant S_ .f32 0x00000000#32),
    TRef.binary (TRef.of (T := ⟨S8x19x512x512, .f32⟩) main_call5_v6) (TRef.of (T := ⟨S_, .f32⟩) main_call5_cst_1) (TRef.of (T := ⟨S8x512x512, .f32⟩) main_call5_v7) (fun x v => Host.reduceAdd x v reducesTo_S8x19x512x512_S8x512x512_d1 h_S_),
    TRef.unary (TRef.of (T := ⟨S8x512x512, .f32⟩) main_call5_v7) (TRef.of (T := ⟨S8x1x512x512, .f32⟩) main_call5_v8) (broadcastInDim S8x1x512x512 ![0, 2, 3] bcast_S8x512x512_S8x1x512x512_0_2_3),
    TRef.unary (TRef.of (T := ⟨S8x1x512x512, .f32⟩) main_call5_v8) (TRef.of (T := ⟨S8x1x512x512, .f32⟩) main_call5_v9) Host.log,
    TRef.unary (TRef.of (T := ⟨S8x1x512x512, .f32⟩) main_call5_v9) (TRef.of (T := ⟨S8x19x512x512, .f32⟩) main_call5_v10) (broadcastInDim S8x19x512x512 ![0, 1, 2, 3] bcast_S8x1x512x512_S8x19x512x512_0_1_2_3),
    TRef.binary (TRef.of (T := ⟨S8x19x512x512, .f32⟩) main_call5_v5) (TRef.of (T := ⟨S8x19x512x512, .f32⟩) main_call5_v10) (TRef.of (T := ⟨S8x19x512x512, .f32⟩) main_v34) subf,
    nullary main_c_13 (constantI S_ 32 0#32),
    nullary main_c_14 (constantI S_ 32 18#32),
    TRef.unary (TRef.of (T := ⟨S_, .i32⟩) main_c_13) (TRef.of (T := ⟨S_, .i32⟩) main_call6_v0) id,
    TRef.unary (TRef.of (T := ⟨S_, .i32⟩) main_call6_v0) (TRef.of (T := ⟨S8x512x512, .i32⟩) main_call6_v1) (broadcastInDim S8x512x512 ![] bcast_S_S8x512x512),
    TRef.binary (TRef.of (T := ⟨S8x512x512, .i32⟩) main_call6_v1) (TRef.of (T := ⟨S8x512x512, .i32⟩) main_arg1) (TRef.of (T := ⟨S8x512x512, .i32⟩) main_call6_v2) maxsi,
    TRef.unary (TRef.of (T := ⟨S_, .i32⟩) main_c_14) (TRef.of (T := ⟨S_, .i32⟩) main_call6_v3) id,
    TRef.unary (TRef.of (T := ⟨S_, .i32⟩) main_call6_v3) (TRef.of (T := ⟨S8x512x512, .i32⟩) main_call6_v4) (broadcastInDim S8x512x512 ![] bcast_S_S8x512x512),
    TRef.binary (TRef.of (T := ⟨S8x512x512, .i32⟩) main_call6_v4) (TRef.of (T := ⟨S8x512x512, .i32⟩) main_call6_v2) (TRef.of (T := ⟨S8x512x512, .i32⟩) main_v35) minsi,
    unary main_v35 main_v36 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S8x1x512x512, .i32⟩) main_call7_v0) (broadcastInDim S8x1x512x512 ![] bcast_S_S8x1x512x512),
    TRef.binary (TRef.of (T := ⟨S8x1x512x512, .i32⟩) main_v36) (TRef.of (T := ⟨S8x1x512x512, .i32⟩) main_call7_v0) (TRef.of (T := ⟨S8x1x512x512, .i1⟩) main_call7_v1) (cmpi .slt),
    TRef.nullary (TRef.of (T := ⟨S_, .i32⟩) main_call7_c_0) (constantI S_ 32 19#32),
    TRef.unary (TRef.of (T := ⟨S_, .i32⟩) main_call7_c_0) (TRef.of (T := ⟨S8x1x512x512, .i32⟩) main_call7_v2) (broadcastInDim S8x1x512x512 ![] bcast_S_S8x1x512x512),
    TRef.binary (TRef.of (T := ⟨S8x1x512x512, .i32⟩) main_v36) (TRef.of (T := ⟨S8x1x512x512, .i32⟩) main_call7_v2) (TRef.of (T := ⟨S8x1x512x512, .i32⟩) main_call7_v3) addi,
    TRef.ternary (TRef.of (T := ⟨S8x1x512x512, .i1⟩) main_call7_v1) (TRef.of (T := ⟨S8x1x512x512, .i32⟩) main_call7_v3) (TRef.of (T := ⟨S8x1x512x512, .i32⟩) main_v36) (TRef.of (T := ⟨S8x1x512x512, .i32⟩) main_call7_v4) select,
    TRef.reshape (TRef.of (T := ⟨S8x1x512x512, .i32⟩) main_call7_v4) (TRef.of (T := ⟨S8x1x512x512x1, .i32⟩) main_call7_v5) (rfl : (.i32 : EltTy) = .i32) shapeCasts_S8x1x512x512_S8x1x512x512x1,
    TRef.nullary (TRef.of (T := ⟨S1, .i32⟩) main_call7_c_1) (constantI S1 32 18#32),
    TRef.nullary (TRef.of (T := ⟨S_, .i32⟩) main_call7_c_2) (constantI S_ 32 0#32),
    TRef.unary (TRef.of (T := ⟨S_, .i32⟩) main_call7_c_2) (TRef.of (T := ⟨S8x1x512x512x1, .i32⟩) main_call7_v6) (broadcastInDim S8x1x512x512x1 ![] bcast_S_S8x1x512x512x1),
    TRef.binary (TRef.of (T := ⟨S8x1x512x512x1, .i32⟩) main_call7_v5) (TRef.of (T := ⟨S8x1x512x512x1, .i32⟩) main_call7_v6) (TRef.of (T := ⟨S8x1x512x512x1, .i1⟩) main_call7_v7) (cmpi .sge),
    TRef.unary (TRef.of (T := ⟨S1, .i32⟩) main_call7_c_1) (TRef.of (T := ⟨S1x1x1x1x1, .i32⟩) main_call7_v8) (broadcastInDim S1x1x1x1x1 ![4] bcast_S1_S1x1x1x1x1_4),
    TRef.unary (TRef.of (T := ⟨S1x1x1x1x1, .i32⟩) main_call7_v8) (TRef.of (T := ⟨S8x1x512x512x1, .i32⟩) main_call7_v9) (broadcastInDim S8x1x512x512x1 ![0, 1, 2, 3, 4] bcast_S1x1x1x1x1_S8x1x512x512x1_0_1_2_3_4),
    TRef.binary (TRef.of (T := ⟨S8x1x512x512x1, .i32⟩) main_call7_v5) (TRef.of (T := ⟨S8x1x512x512x1, .i32⟩) main_call7_v9) (TRef.of (T := ⟨S8x1x512x512x1, .i1⟩) main_call7_v10) (cmpi .sle),
    TRef.binary (TRef.of (T := ⟨S8x1x512x512x1, .i1⟩) main_call7_v7) (TRef.of (T := ⟨S8x1x512x512x1, .i1⟩) main_call7_v10) (TRef.of (T := ⟨S8x1x512x512x1, .i1⟩) main_call7_v11) andi,
    TRef.nullary (TRef.of (T := ⟨S_, .i1⟩) main_call7_c_3) (constantI S_ 1 1#1),
    TRef.binary (TRef.of (T := ⟨S8x1x512x512x1, .i1⟩) main_call7_v11) (TRef.of (T := ⟨S_, .i1⟩) main_call7_c_3) (TRef.of (T := ⟨S8x1x512x512, .i1⟩) main_call7_v12) (fun x v => Host.reduce IntOp.andi x v reducesTo_S8x1x512x512x1_S8x1x512x512_d4 h_S_),
    TRef.binary (TRef.of (T := ⟨S8x19x512x512, .f32⟩) main_v34) (TRef.of (T := ⟨S8x1x512x512x1, .i32⟩) main_call7_v5) (TRef.of (T := ⟨S8x1x512x512, .f32⟩) main_call7_v13) (fun x i => Host.gather gather_S8x19x512x512_S8x1x512x512x1_S8x1x512x512_n_1_023_023_1_4_1111 x i),
    TRef.nullary (TRef.of (T := ⟨S_, .f32⟩) main_call7_cst) (constant S_ .f32 0x7FC00000#32),
    TRef.unary (TRef.of (T := ⟨S_, .f32⟩) main_call7_cst) (TRef.of (T := ⟨S8x1x512x512, .f32⟩) main_call7_v14) (broadcastInDim S8x1x512x512 ![] bcast_S_S8x1x512x512),
    TRef.ternary (TRef.of (T := ⟨S8x1x512x512, .i1⟩) main_call7_v12) (TRef.of (T := ⟨S8x1x512x512, .f32⟩) main_call7_v13) (TRef.of (T := ⟨S8x1x512x512, .f32⟩) main_call7_v14) (TRef.of (T := ⟨S8x1x512x512, .f32⟩) main_v37) select,
    reshape main_v37 main_v38 (rfl : (.f32 : EltTy) = .f32) shapeCasts_S8x1x512x512_S8x512x512,
    unary main_v38 main_v39 (Host.negf : (⟨S8x512x512, .f32⟩ : BufTy).Contents (Elt F) → (⟨S8x512x512, .f32⟩ : BufTy).Contents (Elt F)),
    nullary main_c_15 (constantI S_ 32 255#32),
    unary main_c_15 main_v40 (broadcastInDim S8x512x512 ![] bcast_S_S8x512x512 : (⟨S_, .i32⟩ : BufTy).Contents (Elt F) → (⟨S8x512x512, .i32⟩ : BufTy).Contents (Elt F)),
    binary main_arg1 main_v40 main_v41 (cmpi .ne : (⟨S8x512x512, .i32⟩ : BufTy).Contents (Elt F) → (⟨S8x512x512, .i32⟩ : BufTy).Contents (Elt F) → (⟨S8x512x512, .i1⟩ : BufTy).Contents (Elt F)),
    nullary main_cst_16 (constant S_ .f32 0x00000000#32),
    TRef.unary (TRef.of (T := ⟨S_, .f32⟩) main_cst_16) (TRef.of (T := ⟨S_, .f32⟩) main_call8_v0) id,
    TRef.unary (TRef.of (T := ⟨S_, .f32⟩) main_call8_v0) (TRef.of (T := ⟨S8x512x512, .f32⟩) main_call8_v1) (broadcastInDim S8x512x512 ![] bcast_S_S8x512x512),
    TRef.ternary (TRef.of (T := ⟨S8x512x512, .i1⟩) main_v41) (TRef.of (T := ⟨S8x512x512, .f32⟩) main_v39) (TRef.of (T := ⟨S8x512x512, .f32⟩) main_call8_v1) (TRef.of (T := ⟨S8x512x512, .f32⟩) main_v42) select,
    nullary main_c_17 (constantI S_ 32 0#32),
    unary main_c_17 main_v43 (broadcastInDim S8x512x512 ![] bcast_S_S8x512x512 : (⟨S_, .i32⟩ : BufTy).Contents (Elt F) → (⟨S8x512x512, .i32⟩ : BufTy).Contents (Elt F)),
    binary main_arg1 main_v43 main_v44 (cmpi .slt : (⟨S8x512x512, .i32⟩ : BufTy).Contents (Elt F) → (⟨S8x512x512, .i32⟩ : BufTy).Contents (Elt F) → (⟨S8x512x512, .i1⟩ : BufTy).Contents (Elt F)),
    nullary main_c_18 (constantI S_ 32 256#32),
    unary main_c_18 main_v45 (broadcastInDim S8x512x512 ![] bcast_S_S8x512x512 : (⟨S_, .i32⟩ : BufTy).Contents (Elt F) → (⟨S8x512x512, .i32⟩ : BufTy).Contents (Elt F)),
    binary main_arg1 main_v45 main_v46 (addi : (⟨S8x512x512, .i32⟩ : BufTy).Contents (Elt F) → (⟨S8x512x512, .i32⟩ : BufTy).Contents (Elt F) → (⟨S8x512x512, .i32⟩ : BufTy).Contents (Elt F)),
    ternary main_v44 main_v46 main_arg1 main_v47 (select : (⟨S8x512x512, .i1⟩ : BufTy).Contents (Elt F) → (⟨S8x512x512, .i32⟩ : BufTy).Contents (Elt F) → (⟨S8x512x512, .i32⟩ : BufTy).Contents (Elt F) → (⟨S8x512x512, .i32⟩ : BufTy).Contents (Elt F)),
    unary main_v47 main_v48 (broadcastInDim S8x512x512x1 ![0, 1, 2] bcast_S8x512x512_S8x512x512x1_0_1_2 : (⟨S8x512x512, .i32⟩ : BufTy).Contents (Elt F) → (⟨S8x512x512x1, .i32⟩ : BufTy).Contents (Elt F)),
    binary main_v33 main_v48 main_v49 ((fun x i => Host.gather gather_S256_S8x512x512x1_S8x512x512_n_0_n_n_0_3_1 x i) : (⟨S256, .f32⟩ : BufTy).Contents (Elt F) → (⟨S8x512x512x1, .i32⟩ : BufTy).Contents (Elt F) → (⟨S8x512x512, .f32⟩ : BufTy).Contents (Elt F)),
    binary main_v49 main_v42 main_v50 (mulf : (⟨S8x512x512, .f32⟩ : BufTy).Contents (Elt F) → (⟨S8x512x512, .f32⟩ : BufTy).Contents (Elt F) → (⟨S8x512x512, .f32⟩ : BufTy).Contents (Elt F)),
    nullary main_cst_19 (constant S_ .f32 0x00000000#32),
    binary main_v50 main_cst_19 main_v51 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_20 (constant S_ .f32 0x4A000000#32),
    binary main_v51 main_cst_20 main_v52 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., binary_bufs_sub .., reshape_bufs_sub .., reshape_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., unary_bufs_sub .., ternary_bufs_sub .., unary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., nullary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub ..⟩

set_option maxRecDepth 8192 in
/-- `main_v52`'s composed term of the arguments (named: it is long). -/
def res_main_v52 (m : (ℓ : Loc nD τ sig) → Buf (Elt F) ℓ) (c : Dev nD) : Buf (Elt F) ((c.tc : Thread nD τ).loc main_v52) :=
  Host.divf (Host.reduceAdd (mulf (Host.gather gather_S256_S8x512x512x1_S8x512x512_n_0_n_n_0_3_1 (Host.scatter scatter_S256_S1_S__n_0_0_0 (fun _ b => b) (Host.divf (select (cmpf .ogt (Host.scatterAdd scatter_S256_S2097152x1_S2097152_n_0_0_1 (broadcastInDim S256 ![] bcast_S_S256 (constant S_ .f32 0x00000000#32)) (broadcastInDim S2097152x1 ![0] bcast_S2097152_S2097152x1_0 (select (cmpi .slt (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 0#32))) (addi (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 256#32))) (maxsi (broadcastInDim S2097152 ![] bcast_S_S2097152 (id (constantI S_ 32 0#32))) (shapeCast _ (m ((c.tc : Thread nD τ).loc main_arg1)) shapeCasts_S8x512x512_S2097152)))) (uitofp .f32 (shapeCast _ (cmpi .ne ((fun j => (Host.argReduce reducer_argmax_f32_i32 (m ((c.tc : Thread nD τ).loc main_arg0)) (iotaInDim S8x19x512x512 32 1) (constant S_ .f32 0xFF800000#32) (constantI S_ 32 0#32) reducesTo_S8x19x512x512_S8x512x512_d1 h_S_ j).2)) (m ((c.tc : Thread nD τ).loc main_arg1))) shapeCasts_S8x512x512_S2097152)) : (⟨S256, .f32⟩ : BufTy).Contents (Elt F)) (broadcastInDim S256 ![] bcast_S_S256 (constant S_ .f32 0x00000000#32))) (Host.scatterAdd scatter_S256_S2097152x1_S2097152_n_0_0_1 (broadcastInDim S256 ![] bcast_S_S256 (constant S_ .f32 0x00000000#32)) (broadcastInDim S2097152x1 ![0] bcast_S2097152_S2097152x1_0 (select (cmpi .slt (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 0#32))) (addi (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 256#32))) (maxsi (broadcastInDim S2097152 ![] bcast_S_S2097152 (id (constantI S_ 32 0#32))) (shapeCast _ (m ((c.tc : Thread nD τ).loc main_arg1)) shapeCasts_S8x512x512_S2097152)))) (uitofp .f32 (shapeCast _ (cmpi .ne ((fun j => (Host.argReduce reducer_argmax_f32_i32 (m ((c.tc : Thread nD τ).loc main_arg0)) (iotaInDim S8x19x512x512 32 1) (constant S_ .f32 0xFF800000#32) (constantI S_ 32 0#32) reducesTo_S8x19x512x512_S8x512x512_d1 h_S_ j).2)) (m ((c.tc : Thread nD τ).loc main_arg1))) shapeCasts_S8x512x512_S2097152))) (broadcastInDim S256 ![] bcast_S_S256 (id (constant S_ .f32 0x3F800000#32)))) (select (cmpf .ogt (sitofp .f32 (Host.scatter scatter_S256_S2097152x1_S2097152_n_0_0_1 IntOp.addi (broadcastInDim S256 ![] bcast_S_S256 (constantI S_ 32 0#32)) (broadcastInDim S2097152x1 ![0] bcast_S2097152_S2097152x1_0 (select (cmpi .slt (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 0#32))) (addi (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 256#32))) (maxsi (broadcastInDim S2097152 ![] bcast_S_S2097152 (id (constantI S_ 32 0#32))) (shapeCast _ (m ((c.tc : Thread nD τ).loc main_arg1)) shapeCasts_S8x512x512_S2097152)))) (broadcastInDim S2097152 ![] bcast_S_S2097152 (constantI S_ 32 1#32))) : (⟨S256, .f32⟩ : BufTy).Contents (Elt F)) (broadcastInDim S256 ![] bcast_S_S256 (constant S_ .f32 0x00000000#32))) (sitofp .f32 (Host.scatter scatter_S256_S2097152x1_S2097152_n_0_0_1 IntOp.addi (broadcastInDim S256 ![] bcast_S_S256 (constantI S_ 32 0#32)) (broadcastInDim S2097152x1 ![0] bcast_S2097152_S2097152x1_0 (select (cmpi .slt (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 0#32))) (addi (maxsi (broadcastInDim S2097152 ![] bcast_S_S2097152 (id (constantI S_ 32 0#32))) (shapeCast _ (m ((c.tc : Thread nD τ).loc main_arg1)) shapeCasts_S8x512x512_S2097152)) (broadcastInDim S2097152 ![] bcast_S_S2097152 (constantI S_ 32 256#32))) (maxsi (broadcastInDim S2097152 ![] bcast_S_S2097152 (id (constantI S_ 32 0#32))) (shapeCast _ (m ((c.tc : Thread nD τ).loc main_arg1)) shapeCasts_S8x512x512_S2097152)))) (broadcastInDim S2097152 ![] bcast_S_S2097152 (constantI S_ 32 1#32)))) (broadcastInDim S256 ![] bcast_S_S256 (id (constant S_ .f32 0x3F800000#32))))) (broadcastInDim S1 ![] bcast_S_S1 (constantI S_ 32 255#32)) (constant S_ .f32 0x00000000#32)) (broadcastInDim S8x512x512x1 ![0, 1, 2] bcast_S8x512x512_S8x512x512x1_0_1_2 (select (cmpi .slt (m ((c.tc : Thread nD τ).loc main_arg1)) (broadcastInDim S8x512x512 ![] bcast_S_S8x512x512 (constantI S_ 32 0#32))) (addi (m ((c.tc : Thread nD τ).loc main_arg1)) (broadcastInDim S8x512x512 ![] bcast_S_S8x512x512 (constantI S_ 32 256#32))) (m ((c.tc : Thread nD τ).loc main_arg1))))) (select (cmpi .ne (m ((c.tc : Thread nD τ).loc main_arg1)) (broadcastInDim S8x512x512 ![] bcast_S_S8x512x512 (constantI S_ 32 255#32))) (Host.negf (shapeCast _ (select (Host.reduce IntOp.andi (andi (cmpi .sge (shapeCast _ (select (cmpi .slt (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 0#32))) (addi (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 19#32))) (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1)))))) shapeCasts_S8x1x512x512_S8x1x512x512x1) (broadcastInDim S8x1x512x512x1 ![] bcast_S_S8x1x512x512x1 (constantI S_ 32 0#32))) (cmpi .sle (shapeCast _ (select (cmpi .slt (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 0#32))) (addi (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 19#32))) (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1)))))) shapeCasts_S8x1x512x512_S8x1x512x512x1) (broadcastInDim S8x1x512x512x1 ![0, 1, 2, 3, 4] bcast_S1x1x1x1x1_S8x1x512x512x1_0_1_2_3_4 (broadcastInDim S1x1x1x1x1 ![4] bcast_S1_S1x1x1x1x1_4 (constantI S1 32 18#32))))) (constantI S_ 1 1#1) reducesTo_S8x1x512x512x1_S8x1x512x512_d4 h_S_) (Host.gather gather_S8x19x512x512_S8x1x512x512x1_S8x1x512x512_n_1_023_023_1_4_1111 (subf (subf (m ((c.tc : Thread nD τ).loc main_arg0)) (broadcastInDim S8x19x512x512 ![0, 1, 2, 3] bcast_S8x1x512x512_S8x19x512x512_0_1_2_3 (broadcastInDim S8x1x512x512 ![0, 2, 3] bcast_S8x512x512_S8x1x512x512_0_2_3 (maximumf (broadcastInDim S8x512x512 ![] bcast_S_S8x512x512 (constant S_ .f32 0xFF800000#32)) (Host.reduce FloatOps.maximumf (m ((c.tc : Thread nD τ).loc main_arg0)) (constant S_ .f32 0xFF800000#32) reducesTo_S8x19x512x512_S8x512x512_d1 h_S_))))) (broadcastInDim S8x19x512x512 ![0, 1, 2, 3] bcast_S8x1x512x512_S8x19x512x512_0_1_2_3 (Host.log (broadcastInDim S8x1x512x512 ![0, 2, 3] bcast_S8x512x512_S8x1x512x512_0_2_3 (Host.reduceAdd (Host.exp (subf (m ((c.tc : Thread nD τ).loc main_arg0)) (broadcastInDim S8x19x512x512 ![0, 1, 2, 3] bcast_S8x1x512x512_S8x19x512x512_0_1_2_3 (broadcastInDim S8x1x512x512 ![0, 2, 3] bcast_S8x512x512_S8x1x512x512_0_2_3 (maximumf (broadcastInDim S8x512x512 ![] bcast_S_S8x512x512 (constant S_ .f32 0xFF800000#32)) (Host.reduce FloatOps.maximumf (m ((c.tc : Thread nD τ).loc main_arg0)) (constant S_ .f32 0xFF800000#32) reducesTo_S8x19x512x512_S8x512x512_d1 h_S_)))))) (constant S_ .f32 0x00000000#32) reducesTo_S8x19x512x512_S8x512x512_d1 h_S_))))) (shapeCast _ (select (cmpi .slt (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 0#32))) (addi (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1))))) (broadcastInDim S8x1x512x512 ![] bcast_S_S8x1x512x512 (constantI S_ 32 19#32))) (broadcastInDim S8x1x512x512 ![0, 2, 3] bcast_S8x512x512_S8x1x512x512_0_2_3 (minsi (broadcastInDim S8x512x512 ![] bcast_S_S8x512x512 (id (constantI S_ 32 18#32))) (maxsi (broadcastInDim S8x512x512 ![] bcast_S_S8x512x512 (id (constantI S_ 32 0#32))) (m ((c.tc : Thread nD τ).loc main_arg1)))))) shapeCasts_S8x1x512x512_S8x1x512x512x1)) (broadcastInDim S8x1x512x512 ![] bcast_S_S8x1x512x512 (constant S_ .f32 0x7FC00000#32))) shapeCasts_S8x1x512x512_S8x512x512)) (broadcastInDim S8x512x512 ![] bcast_S_S8x512x512 (id (constant S_ .f32 0x00000000#32))))) (constant S_ .f32 0x00000000#32) reducesTo_S8x512x512_S_d0_1_2 h_S_) (constant S_ .f32 0x4A000000#32)

/-- `res_main_v52` by its position among the values @main returns, 0 counting from 0: the name for hand proofs to cite, since
    a re-print renumbers `main_v52`. An abbreviation: it unfolds to the `res_main_v52` that `run` states. -/
abbrev res_out0 (m : (ℓ : Loc nD τ sig) → Buf (Elt F) ℓ) (c : Dev nD) : Buf (Elt F) ((c.tc : Thread nD τ).loc main_v52) := res_main_v52 m c

set_option maxRecDepth 8192 in
set_option maxHeartbeats 52000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = res_main_v52 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (by simp only [ops, TRef.binary, TRef.nullary, TRef.quaternary, TRef.reshape, TRef.ternary, TRef.unary, TRef.toBuf, TRef.ofBuf, cast_eq]; after_results_simp <;> rfl <;> (unfold res_main_v52; rfl)),
      (h c main_arg0).trans (by simp only [ops, TRef.binary, TRef.nullary, TRef.quaternary, TRef.reshape, TRef.ternary, TRef.unary, TRef.toBuf, TRef.ofBuf, cast_eq]; after_results_simp <;> rfl),
      (h c main_arg1).trans (by simp only [ops, TRef.binary, TRef.nullary, TRef.quaternary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.Ref.Read.lean ====
/- The reference program one operation at a time. `val_<buffer>` is the value the operation writes, as a function of the
   arguments; `val_<buffer>_apply` reads it at an index from its operands at an index (`idx_<buffer>`). The last theorem
   says that the composed term of the run is the last of these values. -/
module

public import proofs.«01_k».proof.Proof.Ref.Run
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_call0_v0 : (⟨S8x19x512x512, .i32⟩ : BufTy).Contents (Elt F) :=
  iotaInDim S8x19x512x512 32 1
theorem val_main_call0_v0_apply (i : S8x19x512x512.Idx) :
    val_main_call0_v0 (F := F) i = BitVec.ofNat 32 (i 1).val := rfl

def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

def val_main_call0_c : (⟨S_, .i32⟩ : BufTy).Contents (Elt F) :=
  constantI S_ 32 0#32
theorem val_main_call0_c_apply (i : S_.Idx) :
    val_main_call0_c (F := F) i = 0#32 := rfl

def val_main_call0_v1_0 (x0 : (⟨S8x19x512x512, .f32⟩ : BufTy).Contents (Elt F)) : (⟨S8x512x512, .f32⟩ : BufTy).Contents (Elt F) :=
  (fun j => (Host.argReduce reducer_argmax_f32_i32 (x0) (val_main_call0_v0 (F := F)) (val_main_call0_cst (F := F)) (val_main_call0_c (F := F)) reducesTo_S8x19x512x512_S8x512x512_d1 h_S_ j).1)

def val_main_v0 (x0 : (⟨S8x19x512x512, .f32⟩ : BufTy).Contents (Elt F)) : (⟨S8x512x512, .i32⟩ : BufTy).Contents (Elt F) :=
  (fun j => (Host.argReduce reducer_argmax_f32_i32 (x0) (val_main_call0_v0 (F := F)) (val_main_call0_cst (F := F)) (val_main_call0_c (F := F)) reducesTo_S8x19x512x512_S8x512x512_d1 h_S_ j).2)

def val_main_v1 (x0 : (⟨S8x19x512x512, .f32⟩ : BufTy).Contents (Elt F)) (x1 : (⟨S8x512x512, .i32⟩ : BufTy).Contents (Elt F)) : (⟨S8x512x512, .i1⟩ : BufTy).Contents (Elt F) :=
  cmpi .ne (val_main_v0 (F := F) x0) (x1)
theorem val_main_v1_apply (x0 : (⟨S8x19x512x512, .f32⟩ : BufTy).Contents (Elt F)) (x1 : (⟨S8x512x512, .i32⟩ : BufTy).Contents (Elt F)) (i : S8x512x512.Idx) :
    val_main_v1 (F := F) x0 x1 i = IntOp.cmpi .ne (val_main_v0 (F := F) x0 i) (x1 i) := rfl

def val_main_v2 (x0 : (⟨S8x19x512x512, .f32⟩ : BufTy).Contents (Elt F)) (x1 : (⟨S8x512x512, .i32⟩ : BufTy).Contents (Elt F)) : (⟨S2097152, .i1⟩ : BufTy).Contents (Elt F) :=
  shapeCast _ (val_main_v1 (F := F) x0 x1) shapeCasts_S8x512x512_S2097152
set_option backward.proofsInPublic true in
abbrev idx_main_v2 (i : S2097152.Idx) : S8x512x512.Idx := fun a => match a with
  | ⟨0, _⟩ => ⟨((i 0).val) / 262144, by have h0 : (i 0).val < 2097152 := (i 0).isLt; show ((i 0).val) / 262144 < 8; omega⟩
  | ⟨1, _⟩ => ⟨((i 0).val) / 512 % 512, by have h0 : (i 0).val < 2097152 := (i 0).isLt; show ((i 0).val) / 512 % 512 < 512; omega⟩
  | ⟨2, _⟩ => ⟨((i 0).val) % 512, by have h0 : (i 0).val < 2097152 := (i 0).isLt; show ((i 0).val) % 512 < 512; omega⟩
theorem val_main_v2_apply (x0 : (⟨S8x19x512x512, .f32⟩ : BufTy).Contents (Elt F)) (x1 : (⟨S8x512x512, .i32⟩ : BufTy).Contents (Elt F)) (i : S2097152.Idx) :
    val_main_v2 (F := F) x0 x1 i = val_main_v1 (F := F) x0 x1 (idx_main_v2 i) := by
  unfold val_main_v2
  generalize val_main_v1 (F := F) x0 x1 = y
  exact shapeCast_apply y shapeCasts_S8x512x512_S2097152 i (idx_main_v2 i)
    (by rewrite [Shape.rowMajor_val_three, Shape.rowMajor_val_one]; have h0 : (i 0).val < 2097152 := (i 0).isLt; show (((i 0).val) / 262144 * 512 + ((i 0).val) / 512 % 512) * 512 + ((i 0).val) % 512 = (i 0).val; omega)

def val_main_v3 (x1 : (⟨S8x512x512, .i32⟩ : BufTy).Contents (Elt F)) : (⟨S2097152, .i32⟩ : BufTy).Contents (Elt F) :=
  shapeCast _ (x1) shapeCasts_S8x512x512_S2097152
set_option backward.proofsInPublic true in
abbrev idx_main_v3 (i : S2097152.Idx) : S8x512x512.Idx := fun a => match a with
  | ⟨0, _⟩ => ⟨((i 0).val) / 262144, by have h0 : (i 0).val < 2097152 := (i 0).isLt; show ((i 0).val) / 262144 < 8; omega⟩
  | ⟨1, _⟩ => ⟨((i 0).val) / 512 % 512, by have h0 : (i 0).val < 2097152 := (i 0).isLt; show ((i 0).val) / 512 % 512 < 512; omega⟩
  | ⟨2, _⟩ => ⟨((i 0).val) % 512, by have h0 : (i 0).val < 2097152 := (i 0).isLt; show ((i 0).val) % 512 < 512; omega⟩
theorem val_main_v3_apply (x1 : (⟨S8x512x512, .i32⟩ : BufTy).Contents (Elt F)) (i : S2097152.Idx) :
    val_main_v3 (F := F) x1 i = x1 (idx_main_v3 i) := by
  unfold val_main_v3
  exact shapeCast_apply x1 shapeCasts_S8x512x512_S2097152 i (idx_main_v3 i)
    (by rewrite [Shape.rowMajor_val_three, Shape.rowMajor_val_one]; have h0 : (i 0).val < 2097152 := (i 0).isLt; show (((i 0).val) / 262144 * 512 + ((i 0).val) / 512 % 512) * 512 + ((i 0).val) % 512 = (i 0).val; omega)

def val_main_c : (⟨S_, .i32⟩ : BufTy).Contents (Elt F) :=
  constantI S_ 32 0#32
theorem val_main_c_apply (i : S_.Idx) :
    val_main_c (F := F) i = 0#32 := rfl

def val_main_v4 : (⟨S256, .i32⟩ : BufTy).Contents (Elt F) :=
  broadcastInDim S256 ![] bcast_S_S256 (val_main_c (F := F))
abbrev idx_main_v4 (i : S256.Idx) : S_.Idx := fun a => a.elim0
theorem val_main_v4_apply (i : S256.Idx) :
    val_main_v4 (F := F) i = val_main_c (F := F) (idx_main_v4 i) := by
  unfold val_main_v4
  generalize val_main_c (F := F) = y
  exact broadcastInDim_apply _ bcast_S_S256 y i (idx_main_v4 i) (fun a => a.elim0)

def val_main_c_0 : (⟨S_, .i32⟩ : BufTy).Contents (Elt F) :=
  constantI S_ 32 0#32
theorem val_main_c_0_apply (i : S_.Idx) :
    val_main_c_0 (F := F) i = 0#32 := rfl

def val_main_call1_v0 : (⟨S_, .i32⟩ : BufTy).Contents (Elt F) :=
  id (val_main_c_0 (F := F))
theorem val_main_call1_v0_apply (i : S_.Idx) :
    val_main_call1_v0 (F := F) i = (val_main_c_0 (F := F) i) := rfl

def val_main_call1_v1 : (⟨S2097152, .i32⟩ : BufTy).Contents (Elt F) :=
  broadcastInDim S2097152 ![] bcast_S_S2097152 (val_main_call1_v0 (F := F))
abbrev idx_main_call1_v1 (i : S2097152.Idx) : S_.Idx := fun a => a.elim0
theorem val_main_call1_v1_apply (i : S2097152.Idx) :
    val_main_call1_v1 (F := F) i = val_main_call1_v0 (F := F) (idx_main_call1_v1 i) := by
  unfold val_main_call1_v1
  generalize val_main_call1_v0 (F := F) = y
  exact broadcastInDim_apply _ bcast_S_S2097152 y i (idx_main_call1_v1 i) (fun a => a.elim0)

def val_main_v5 (x1 : (⟨S8x512x512, .i32⟩ : BufTy).Contents (Elt F)) : (⟨S2097152, .i32⟩ : BufTy).Contents (Elt F) :=
  maxsi (val_main_call1_v1 (F := F)) (val_main_v3 (F := F) x1)
theorem val_main_v5_apply (x1 : (⟨S8x512x512, .i32⟩ : BufTy).Contents (Elt F)) (i : S2097152.Idx) :
    val_main_v5 (F := F) x1 i = IntOp.maxsi (val_main_call1_v1 (F := F) i) (val_main_v3 (F := F) x1 i) := rfl

def val_main_c_1 : (⟨S_, .i32⟩ : BufTy).Contents (Elt F) :=
  constantI S_ 32 0#32
theorem val_main_c_1_apply (i : S_.Idx) :
    val_main_c_1 (F := F) i = 0#32 := rfl

def val_main_v6 : (⟨S2097152, .i32⟩ : BufTy).Contents (Elt F) :=
  broadcastInDim S2097152 ![] bcast_S_S2097152 (val_main_c_1 (F := F))
abbrev idx_main_v6 (i : S2097152.Idx) : S_.Idx := fun a => a.elim0
theorem val_main_v6_apply (i : S2097152.Idx) :
    val_main_v6 (F := F) i = val_main_c_1 (F := F) (idx_main_v6 i) := by
  unfold val_main_v6
  generalize val_main_c_1 (F := F) = y
  exact broadcastInDim_apply _ bcast_S_S2097152 y i (idx_main_v6 i) (fun a => a.elim0)

def val_main_v7 (x1 : (⟨S8x512x512, .i32⟩ : BufTy).Contents (Elt F)) : (⟨S2097152, .i1⟩ : BufTy).Contents (Elt F) :=
  cmpi .slt (val_main_v5 (F := F) x1) (val_main_v6 (F := F))
theorem val_main_v7_apply (x1 : (⟨S8x512x512, .i32⟩ : BufTy).Contents (Elt F)) (i : S2097152.Idx) :
    val_main_v7 (F := F) x1 i = IntOp.cmpi .slt (val_main_v5 (F := F) x1 i) (val_main_v6 (F := F) i) := rfl

def val_main_c_2 : (⟨S_, .i32⟩ : BufTy).Contents (Elt F) :=
  constantI S_ 32 256#32
theorem val_main_c_2_apply (i : S_.Idx) :
    val_main_c_2 (F := F) i = 256#32 := rfl

def val_main_v8 : (⟨S2097152, .i32⟩ : BufTy).Contents (Elt F) :=
  broadcastInDim S2097152 ![] bcast_S_S2097152 (val_main_c_2 (F := F))
abbrev idx_main_v8 (i : S2097152.Idx) : S_.Idx := fun a => a.elim0
theorem val_main_v8_apply (i : S2097152.Idx) :
    val_main_v8 (F := F) i = val_main_c_2 (F := F) (idx_main_v8 i) := by
  unfold val_main_v8
  generalize val_main_c_2 (F := F) = y
  exact broadcastInDim_apply _ bcast_S_S2097152 y i (idx_main_v8 i) (fun a => a.elim0)

def val_main_v9 (x1 : (⟨S8x512x512, .i32⟩ : BufTy).Contents (Elt F)) : (⟨S2097152, .i32⟩ : BufTy).Contents (Elt F) :=
  addi (val_main_v5 (F := F) x1) (val_main_v8 (F := F))
theorem val_main_v9_apply (x1 : (⟨S8x512x512, .i32⟩ : BufTy).Contents (Elt F)) (i : S2097152.Idx) :
    val_main_v9 (F := F) x1 i = IntOp.addi (val_main_v5 (F := F) x1 i) (val_main_v8 (F := F) i) := rfl

def val_main_v10 (x1 : (⟨S8x512x512, .i32⟩ : BufTy).Contents (Elt F)) : (⟨S2097152, .i32⟩ : BufTy).Contents (Elt F) :=
  select (val_main_v7 (F := F) x1) (val_main_v9 (F := F) x1) (val_main_v5 (F := F) x1)
theorem val_main_v10_apply (x1 : (⟨S8x512x512, .i32⟩ : BufTy).Contents (Elt F)) (i : S2097152.Idx) :
    val_main_v10 (F := F) x1 i = Scalar.select (val_main_v7 (F := F) x1 i) (val_main_v9 (F := F) x1 i) (val_main_v5 (F := F) x1 i) := rfl

def val_main_v11 (x1 : (⟨S8x512x512, .i32⟩ : BufTy).Contents (Elt F)) : (⟨S2097152x1, .i32⟩ : BufTy).Contents (Elt F) :=
  broadcastInDim S2097152x1 ![0] bcast_S2097152_S2097152x1_0 (val_main_v10 (F := F) x1)
abbrev idx_main_v11 (i : S2097152x1.Idx) : S2097152.Idx := fun a => match a with
  | ⟨0, _⟩ => ⟨(i 0).val, (i 0).isLt⟩
theorem val_main_v11_apply (x1 : (⟨S8x512x512, .i32⟩ : BufTy).Contents (Elt F)) (i : S2097152x1.Idx) :
    val_main_v11 (F := F) x1 i = val_main_v10 (F := F) x1 (idx_main_v11 i) := by
  unfold val_main_v11
  generalize val_main_v10 (F := F) x1 = y
  exact broadcastInDim_apply _ bcast_S2097152_S2097152x1_0 y i (idx_main_v11 i) (fun a => match a with
    | ⟨0, _⟩ => by show (i 0).val = if (2097152 : Nat) = 1 then 0 else (i 0).val; rw [if_neg (by decide)])

def val_main_c_3 : (⟨S_, .i32⟩ : BufTy).Contents (Elt F) :=
  constantI S_ 32 1#32
theorem val_main_c_3_apply (i : S_.Idx) :
    val_main_c_3 (F := F) i = 1#32 := rfl

def val_main_v12 : (⟨S2097152, .i32⟩ : BufTy).Contents (Elt F) :=
  broadcastInDim S2097152 ![] bcast_S_S2097152 (val_main_c_3 (F := F))
abbrev idx_main_v12 (i : S2097152.Idx) : S_.Idx := fun a => a.elim0
theorem val_main_v12_apply (i : S2097152.Idx) :
    val_main_v12 (F := F) i = val_main_c_3 (F := F) (idx_main_v12 i) := by
  unfold val_main_v12
  generalize val_main_c_3 (F := F) = y
  exact broadcastInDim_apply _ bcast_S_S2097152 y i (idx_main_v12 i) (fun a => a.elim0)

def val_main_v13 (x1 : (⟨S8x512x512, .i32⟩ : BufTy).Contents (Elt F)) : (⟨S256, .i32⟩ : BufTy).Contents (Elt F) :=
  Host.scatter scatter_S256_S2097152x1_S2097152_n_0_0_1 IntOp.addi (val_main_v4 (F := F)) (val_main_v11 (F := F) x1) (val_main_v12 (F := F))

def val_main_v14 (x1 : (⟨S8x512x512, .i32⟩ : BufTy).Contents (Elt F)) : (⟨S256, .f32⟩ : BufTy).Contents (Elt F) :=
  sitofp .f32 (val_main_v13 (F := F) x1)
theorem val_main_v14_apply (x1 : (⟨S8x512x512, .i32⟩ : BufTy).Contents (Elt F)) (i : S256.Idx) :
    val_main_v14 (F := F) x1 i = FloatOps.sitofp .f32 (val_main_v13 (F := F) x1 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v15 : (⟨S256, .f32⟩ : BufTy).Contents (Elt F) :=
  broadcastInDim S256 ![] bcast_S_S256 (val_main_cst (F := F))
abbrev idx_main_v15 (i : S256.Idx) : S_.Idx := fun a => a.elim0
theorem val_main_v15_apply (i : S256.Idx) :
    val_main_v15 (F := F) i = val_main_cst (F := F) (idx_main_v15 i) := by
  unfold val_main_v15
  generalize val_main_cst (F := F) = y
  exact broadcastInDim_apply _ bcast_S_S256 y i (idx_main_v15 i) (fun a => a.elim0)

def val_main_v16 (x1 : (⟨S8x512x512, .i32⟩ : BufTy).Contents (Elt F)) : (⟨S256, .i1⟩ : BufTy).Contents (Elt F) :=
  cmpf .ogt (val_main_v14 (F := F) x1) (val_main_v15 (F := F))
theorem val_main_v16_apply (x1 : (⟨S8x512x512, .i32⟩ : BufTy).Contents (Elt F)) (i : S256.Idx) :
    val_main_v16 (F := F) x1 i = FloatOps.cmpf .ogt (val_main_v14 (F := F) x1 i) (val_main_v15 (F := F) i) := rfl

def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

def val_main_call2_v0 : (⟨S_, .f32⟩ : BufTy).Contents (Elt F) :=
  id (val_main_cst_4 (F := F))
theorem val_main_call2_v0_apply (i : S_.Idx) :
    val_main_call2_v0 (F := F) i = (val_main_cst_4 (F := F) i) := rfl

def val_main_call2_v1 : (⟨S256, .f32⟩ : BufTy).Contents (Elt F) :=
  broadcastInDim S256 ![] bcast_S_S256 (val_main_call2_v0 (F := F))
abbrev idx_main_call2_v1 (i : S256.Idx) : S_.Idx := fun a => a.elim0
theorem val_main_call2_v1_apply (i : S256.Idx) :
    val_main_call2_v1 (F := F) i = val_main_call2_v0 (F := F) (idx_main_call2_v1 i) := by
  unfold val_main_call2_v1
  generalize val_main_call2_v0 (F := F) = y
  exact broadcastInDim_apply _ bcast_S_S256 y i (idx_main_call2_v1 i) (fun a => a.elim0)

def val_main_v17 (x1 : (⟨S8x512x512, .i32⟩ : BufTy).Contents (Elt F)) : (⟨S256, .f32⟩ : BufTy).Contents (Elt F) :=
  select (val_main_v16 (F := F) x1) (val_main_v14 (F := F) x1) (val_main_call2_v1 (F := F))
theorem val_main_v17_apply (x1 : (⟨S8x512x512, .i32⟩ : BufTy).Contents (Elt F)) (i : S256.Idx) :
    val_main_v17 (F := F) x1 i = Scalar.select (val_main_v16 (F := F) x1 i) (val_main_v14 (F := F) x1 i) (val_main_call2_v1 (F := F) i) := rfl

def val_main_v18 (x0 : (⟨S8x19x512x512, .f32⟩ : BufTy).Contents (Elt F)) (x1 : (⟨S8x512x512, .i32⟩ : BufTy).Contents (Elt F)) : (⟨S2097152, .f32⟩ : BufTy).Contents (Elt F) :=
  uitofp .f32 (val_main_v2 (F := F) x0 x1)
theorem val_main_v18_apply (x0 : (⟨S8x19x512x512, .f32⟩ : BufTy).Contents (Elt F)) (x1 : (⟨S8x512x512, .i32⟩ : BufTy).Contents (Elt F)) (i : S2097152.Idx) :
    val_main_v18 (F := F) x0 x1 i = FloatOps.uitofp .f32 (val_main_v2 (F := F) x0 x1 i) := rfl

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v19 : (⟨S256, .f32⟩ : BufTy).Contents (Elt F) :=
  broadcastInDim S256 ![] bcast_S_S256 (val_main_cst_5 (F := F))
abbrev idx_main_v19 (i : S256.Idx) : S_.Idx := fun a => a.elim0
theorem val_main_v19_apply (i : S256.Idx) :
    val_main_v19 (F := F) i = val_main_cst_5 (F := F) (idx_main_v19 i) := by
  unfold val_main_v19
  generalize val_main_cst_5 (F := F) = y
  exact broadcastInDim_apply _ bcast_S_S256 y i (idx_main_v19 i) (fun a => a.elim0)

def val_main_c_6 : (⟨S_, .i32⟩ : BufTy).Contents (Elt F) :=
  constantI S_ 32 0#32
theorem val_main_c_6_apply (i : S_.Idx) :
    val_main_c_6 (F := F) i = 0#32 := rfl

def val_main_call3_v0 : (⟨S_, .i32⟩ : BufTy).Contents (Elt F) :=
  id (val_main_c_6 (F := F))
theorem val_main_call3_v0_apply (i : S_.Idx) :
    val_main_call3_v0 (F := F) i = (val_main_c_6 (F := F) i) := rfl

def val_main_call3_v1 : (⟨S2097152, .i32⟩ : BufTy).Contents (Elt F) :=
  broadcastInDim S2097152 ![] bcast_S_S2097152 (val_main_call3_v0 (F := F))
abbrev idx_main_call3_v1 (i : S2097152.Idx) : S_.Idx := fun a => a.elim0
theorem val_main_call3_v1_apply (i : S2097152.Idx) :
    val_main_call3_v1 (F := F) i = val_main_call3_v0 (F := F) (idx_main_call3_v1 i) := by
  unfold val_main_call3_v1
  generalize val_main_call3_v0 (F := F) = y
  exact broadcastInDim_apply _ bcast_S_S2097152 y i (idx_main_call3_v1 i) (fun a => a.elim0)

def val_main_v20 (x1 : (⟨S8x512x512, .i32⟩ : BufTy).Contents (Elt F)) : (⟨S2097152, .i32⟩ : BufTy).Contents (Elt F) :=
  maxsi (val_main_call3_v1 (F := F)) (val_main_v3 (F := F) x1)
theorem val_main_v20_apply (x1 : (⟨S8x512x512, .i32⟩ : BufTy).Contents (Elt F)) (i : S2097152.Idx) :
    val_main_v20 (F := F) x1 i = IntOp.maxsi (val_main_call3_v1 (F := F) i) (val_main_v3 (F := F) x1 i) := rfl

def val_main_c_7 : (⟨S_, .i32⟩ : BufTy).Contents (Elt F) :=
  constantI S_ 32 0#32
theorem val_main_c_7_apply (i : S_.Idx) :
    val_main_c_7 (F := F) i = 0#32 := rfl

def val_main_v21 : (⟨S2097152, .i32⟩ : BufTy).Contents (Elt F) :=
  broadcastInDim S2097152 ![] bcast_S_S2097152 (val_main_c_7 (F := F))
abbrev idx_main_v21 (i : S2097152.Idx) : S_.Idx := fun a => a.elim0
theorem val_main_v21_apply (i : S2097152.Idx) :
    val_main_v21 (F := F) i = val_main_c_7 (F := F) (idx_main_v21 i) := by
  unfold val_main_v21
  generalize val_main_c_7 (F := F) = y
  exact broadcastInDim_apply _ bcast_S_S2097152 y i (idx_main_v21 i) (fun a => a.elim0)

def val_main_v22 (x1 : (⟨S8x512x512, .i32⟩ : BufTy).Contents (Elt F)) : (⟨S2097152, .i1⟩ : BufTy).Contents (Elt F) :=
  cmpi .slt (val_main_v20 (F := F) x1) (val_main_v21 (F := F))
theorem val_main_v22_apply (x1 : (⟨S8x512x512, .i32⟩ : BufTy).Contents (Elt F)) (i : S2097152.Idx) :
    val_main_v22 (F := F) x1 i = IntOp.cmpi .slt (val_main_v20 (F := F) x1 i) (val_main_v21 (F := F) i) := rfl

def val_main_c_8 : (⟨S_, .i32⟩ : BufTy).Contents (Elt F) :=
  constantI S_ 32 256#32
theorem val_main_c_8_apply (i : S_.Idx) :
    val_main_c_8 (F := F) i = 256#32 := rfl

def val_main_v23 : (⟨S2097152, .i32⟩ : BufTy).Contents (Elt F) :=
  broadcastInDim S2097152 ![] bcast_S_S2097152 (val_main_c_8 (F := F))
abbrev idx_main_v23 (i : S2097152.Idx) : S_.Idx := fun a => a.elim0
theorem val_main_v23_apply (i : S2097152.Idx) :
    val_main_v23 (F := F) i = val_main_c_8 (F := F) (idx_main_v23 i) := by
  unfold val_main_v23
  generalize val_main_c_8 (F := F) = y
  exact broadcastInDim_apply _ bcast_S_S2097152 y i (idx_main_v23 i) (fun a => a.elim0)

def val_main_v24 (x1 : (⟨S8x512x512, .i32⟩ : BufTy).Contents (Elt F)) : (⟨S2097152, .i32⟩ : BufTy).Contents (Elt F) :=
  addi (val_main_v20 (F := F) x1) (val_main_v23 (F := F))
theorem val_main_v24_apply (x1 : (⟨S8x512x512, .i32⟩ : BufTy).Contents (Elt F)) (i : S2097152.Idx) :
    val_main_v24 (F := F) x1 i = IntOp.addi (val_main_v20 (F := F) x1 i) (val_main_v23 (F := F) i) := rfl

def val_main_v25 (x1 : (⟨S8x512x512, .i32⟩ : BufTy).Contents (Elt F)) : (⟨S2097152, .i32⟩ : BufTy).Contents (Elt F) :=
  select (val_main_v22 (F := F) x1) (val_main_v24 (F := F) x1) (val_main_v20 (F := F) x1)
theorem val_main_v25_apply (x1 : (⟨S8x512x512, .i32⟩ : BufTy).Contents (Elt F)) (i : S2097152.Idx) :
    val_main_v25 (F := F) x1 i = Scalar.select (val_main_v22 (F := F) x1 i) (val_main_v24 (F := F) x1 i) (val_main_v20 (F := F) x1 i) := rfl

def val_main_v26 (x1 : (⟨S8x512x512, .i32⟩ : BufTy).Contents (Elt F)) : (⟨S2097152x1, .i32⟩ : BufTy).Contents (Elt F) :=
  broadcastInDim S2097152x1 ![0] bcast_S2097152_S2097152x1_0 (val_main_v25 (F := F) x1)
abbrev idx_main_v26 (i : S2097152x1.Idx) : S2097152.Idx := fun a => match a with
  | ⟨0, _⟩ => ⟨(i 0).val, (i 0).isLt⟩
theorem val_main_v26_apply (x1 : (⟨S8x512x512, .i32⟩ : BufTy).Contents (Elt F)) (i : S2097152x1.Idx) :
    val_main_v26 (F := F) x1 i = val_main_v25 (F := F) x1 (idx_main_v26 i) := by
  unfold val_main_v26
  generalize val_main_v25 (F := F) x1 = y
  exact broadcastInDim_apply _ bcast_S2097152_S2097152x1_0 y i (idx_main_v26 i) (fun a => match a with
    | ⟨0, _⟩ => by show (i 0).val = if (2097152 : Nat) = 1 then 0 else (i 0).val; rw [if_neg (by decide)])

def val_main_v27 (x0 : (⟨S8x19x512x512, .f32⟩ : BufTy).Contents (Elt F)) (x1 : (⟨S8x512x512, .i32⟩ : BufTy).Contents (Elt F)) : (⟨S256, .f32⟩ : BufTy).Contents (Elt F) :=
  Host.scatterAdd scatter_S256_S2097152x1_S2097152_n_0_0_1 (val_main_v19 (F := F)) (val_main_v26 (F := F) x1) (val_main_v18 (F := F) x0 x1)

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v28 : (⟨S256, .f32⟩ : BufTy).Contents (Elt F) :=
  broadcastInDim S256 ![] bcast_S_S256 (val_main_cst_9 (F := F))
abbrev idx_main_v28 (i : S256.Idx) : S_.Idx := fun a => a.elim0
theorem val_main_v28_apply (i : S256.Idx) :
    val_main_v28 (F := F) i = val_main_cst_9 (F := F) (idx_main_v28 i) := by
  unfold val_main_v28
  generalize val_main_cst_9 (F := F) = y
  exact broadcastInDim_apply _ bcast_S_S256 y i (idx_main_v28 i) (fun a => a.elim0)

def val_main_v29 (x0 : (⟨S8x19x512x512, .f32⟩ : BufTy).Contents (Elt F)) (x1 : (⟨S8x512x512, .i32⟩ : BufTy).Contents (Elt F)) : (⟨S256, .i1⟩ : BufTy).Contents (Elt F) :=
  cmpf .ogt (val_main_v27 (F := F) x0 x1) (val_main_v28 (F := F))
theorem val_main_v29_apply (x0 : (⟨S8x19x512x512, .f32⟩ : BufTy).Contents (Elt F)) (x1 : (⟨S8x512x512, .i32⟩ : BufTy).Contents (Elt F)) (i : S256.Idx) :
    val_main_v29 (F := F) x0 x1 i = FloatOps.cmpf .ogt (val_main_v27 (F := F) x0 x1 i) (val_main_v28 (F := F) i) := rfl

def val_main_cst_10 : (⟨S_, .f32⟩ : BufTy).Contents (Elt F) :=
  constant S_ .f32 0x3F800000#32
theorem val_main_cst_10_apply (i : S_.Idx) :
    val_main_cst_10 (F := F) i = FloatOps.ofBits .f32 0x3F800000#32 := rfl

def val_main_call4_v0 : (⟨S_, .f32⟩ : BufTy).Contents (Elt F) :=
  id (val_main_cst_10 (F := F))
theorem val_main_call4_v0_apply (i : S_.Idx) :
    val_main_call4_v0 (F := F) i = (val_main_cst_10 (F := F) i) := rfl

def val_main_call4_v1 : (⟨S256, .f32⟩ : BufTy).Contents (Elt F) :=
  broadcastInDim S256 ![] bcast_S_S256 (val_main_call4_v0 (F := F))
abbrev idx_main_call4_v1 (i : S256.Idx) : S_.Idx := fun a => a.elim0
theorem val_main_call4_v1_apply (i : S256.Idx) :
    val_main_call4_v1 (F := F) i = val_main_call4_v0 (F := F) (idx_main_call4_v1 i) := by
  unfold val_main_call4_v1
  generalize val_main_call4_v0 (F := F) = y
  exact broadcastInDim_apply _ bcast_S_S256 y i (idx_main_call4_v1 i) (fun a => a.elim0)

def val_main_v30 (x0 : (⟨S8x19x512x512, .f32⟩ : BufTy).Contents (Elt F)) (x1 : (⟨S8x512x512, .i32⟩ : BufTy).Contents (Elt F)) : (⟨S256, .f32⟩ : BufTy).Contents (Elt F) :=
  select (val_main_v29 (F := F) x0 x1) (val_main_v27 (F := F) x0 x1) (val_main_call4_v1 (F := F))
theorem val_main_v30_apply (x0 : (⟨S8x19x512x512, .f32⟩ : BufTy).Contents (Elt F)) (x1 : (⟨S8x512x512, .i32⟩ : BufTy).Contents (Elt F)) (i : S256.Idx) :
    val_main_v30 (F := F) x0 x1 i = Scalar.select (val_main_v29 (F := F) x0 x1 i) (val_main_v27 (F := F) x0 x1 i) (val_main_call4_v1 (F := F) i) := rfl

def val_main_v31 (x0 : (⟨S8x19x512x512, .f32⟩ : BufTy).Contents (Elt F)) (x1 : (⟨S8x512x512, .i32⟩ : BufTy).Contents (Elt F)) : (⟨S256, .f32⟩ : BufTy).Contents (Elt F) :=
  Host.divf (val_main_v30 (F := F) x0 x1) (val_main_v17 (F := F) x1)
theorem val_main_v31_apply (x0 : (⟨S8x19x512x512, .f32⟩ : BufTy).Contents (Elt F)) (x1 : (⟨S8x512x512, .i32⟩ : BufTy).Contents (Elt F)) (i : S256.Idx) :
    val_main_v31 (F := F) x0 x1 i = FloatOps.hostDivf (val_main_v30 (F := F) x0 x1 i) (val_main_v17 (F := F) x1 i) := rfl

def val_main_c_11 : (⟨S_, .i32⟩ : BufTy).Contents (Elt F) :=
  constantI S_ 32 255#32
theorem val_main_c_11_apply (i : S_.Idx) :
    val_main_c_11 (F := F) i = 255#32 := rfl

def val_main_v32 : (⟨S1, .i32⟩ : BufTy).Contents (Elt F) :=
  broadcastInDim S1 ![] bcast_S_S1 (val_main_c_11 (F := F))
abbrev idx_main_v32 (i : S1.Idx) : S_.Idx := fun a => a.elim0
theorem val_main_v32_apply (i : S1.Idx) :
    val_main_v32 (F := F) i = val_main_c_11 (F := F) (idx_main_v32 i) := by
  unfold val_main_v32
  generalize val_main_c_11 (F := F) = y
  exact broadcastInDim_apply _ bcast_S_S1 y i (idx_main_v32 i) (fun a => a.elim0)

def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl

def val_main_v33 (x0 : (⟨S8x19x512x512, .f32⟩ : BufTy).Contents (Elt F)) (x1 : (⟨S8x512x512, .i32⟩ : BufTy).Contents (Elt F)) : (⟨S256, .f32⟩ : BufTy).Contents (Elt F) :=
  Host.scatter scatter_S256_S1_S__n_0_0_0 (fun _ b => b) (val_main_v31 (F := F) x0 x1) (val_main_v32 (F := F)) (val_main_cst_12 (F := F))

def val_main_call5_cst : (⟨S_, .f32⟩ : BufTy).Contents (Elt F) :=
  constant S_ .f32 0xFF800000#32
theorem val_main_call5_cst_apply (i : S_.Idx) :
    val_main_call5_cst (F := F) i = FloatOps.ofBits .f32 0xFF800000#32 := rfl

def val_main_call5_v0 (x0 : (⟨S8x19x512x512, .f32⟩ : BufTy).Contents (Elt F)) : (⟨S8x512x512, .f32⟩ : BufTy).Contents (Elt F) :=
  Host.reduce FloatOps.maximumf (x0) (val_main_call5_cst (F := F)) reducesTo_S8x19x512x512_S8x512x512_d1 h_S_

def val_main_call5_cst_0 : (⟨S_, .f32⟩ : BufTy).Contents (Elt F) :=
  constant S_ .f32 0xFF800000#32
theorem val_main_call5_cst_0_apply (i : S_.Idx) :
    val_main_call5_cst_0 (F := F) i = FloatOps.ofBits .f32 0xFF800000#32 := rfl

def val_main_call5_v1 : (⟨S8x512x512, .f32⟩ : BufTy).Contents (Elt F) :=
  broadcastInDim S8x512x512 ![] bcast_S_S8x512x512 (val_main_call5_cst_0 (F := F))
abbrev idx_main_call5_v1 (i : S8x512x512.Idx) : S_.Idx := fun a => a.elim0
theorem val_main_call5_v1_apply (i : S8x512x512.Idx) :
    val_main_call5_v1 (F := F) i = val_main_call5_cst_0 (F := F) (idx_main_call5_v1 i) := by
  unfold val_main_call5_v1
  generalize val_main_call5_cst_0 (F := F) = y
  exact broadcastInDim_apply _ bcast_S_S8x512x512 y i (idx_main_call5_v1 i) (fun a => a.elim0)

def val_main_call5_v2 (x0 : (⟨S8x19x512x512, .f32⟩ : BufTy).Contents (Elt F)) : (⟨S8x512x512, .f32⟩ : BufTy).Contents (Elt F) :=
  maximumf (val_main_call5_v1 (F := F)) (val_main_call5_v0 (F := F) x0)
theorem val_main_call5_v2_apply (x0 : (⟨S8x19x512x512, .f32⟩ : BufTy).Contents (Elt F)) (i : S8x512x512.Idx) :
    val_main_call5_v2 (F := F) x0 i = FloatOps.maximumf (val_main_call5_v1 (F := F) i) (val_main_call5_v0 (F := F) x0 i) := rfl

def val_main_call5_v3 (x0 : (⟨S8x19x512x512, .f32⟩ : BufTy).Contents (Elt F)) : (⟨S8x1x512x512, .f32⟩ : BufTy).Contents (Elt F) :=
  broadcastInDim S8x1x512x512 ![0, 2, 3] bcast_S8x512x512_S8x1x512x512_0_2_3 (val_main_call5_v2 (F := F) x0)
abbrev idx_main_call5_v3 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_call5_v3_apply (x0 : (⟨S8x19x512x512, .f32⟩ : BufTy).Contents (Elt F)) (i : S8x1x512x512.Idx) :
    val_main_call5_v3 (F := F) x0 i = val_main_call5_v2 (F := F) x0 (idx_main_call5_v3 i) := by
  unfold val_main_call5_v3
  generalize val_main_call5_v2 (F := F) x0 = y
  exact broadcastInDim_apply _ bcast_S8x512x512_S8x1x512x512_0_2_3 y i (idx_main_call5_v3 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call5_v4 (x0 : (⟨S8x19x512x512, .f32⟩ : BufTy).Contents (Elt F)) : (⟨S8x19x512x512, .f32⟩ : BufTy).Contents (Elt F) :=
  broadcastInDim S8x19x512x512 ![0, 1, 2, 3] bcast_S8x1x512x512_S8x19x512x512_0_1_2_3 (val_main_call5_v3 (F := F) x0)
abbrev idx_main_call5_v4 (i : S8x19x512x512.Idx) : S8x1x512x512.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_call5_v4_apply (x0 : (⟨S8x19x512x512, .f32⟩ : BufTy).Contents (Elt F)) (i : S8x19x512x512.Idx) :
    val_main_call5_v4 (F := F) x0 i = val_main_call5_v3 (F := F) x0 (idx_main_call5_v4 i) := by
  unfold val_main_call5_v4
  generalize val_main_call5_v3 (F := F) x0 = y
  exact broadcastInDim_apply _ bcast_S8x1x512x512_S8x19x512x512_0_1_2_3 y i (idx_main_call5_v4 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (512 : Nat) = 1 then 0 else (i 3).val; rw [if_neg (by decide)])

def val_main_call5_v5 (x0 : (⟨S8x19x512x512, .f32⟩ : BufTy).Contents (Elt F)) : (⟨S8x19x512x512, .f32⟩ : BufTy).Contents (Elt F) :=
  subf (x0) (val_main_call5_v4 (F := F) x0)
theorem val_main_call5_v5_apply (x0 : (⟨S8x19x512x512, .f32⟩ : BufTy).Contents (Elt F)) (i : S8x19x512x512.Idx) :
    val_main_call5_v5 (F := F) x0 i = FloatOps.subf (x0 i) (val_main_call5_v4 (F := F) x0 i) := rfl

def val_main_call5_v6 (x0 : (⟨S8x19x512x512, .f32⟩ : BufTy).Contents (Elt F)) : (⟨S8x19x512x512, .f32⟩ : BufTy).Contents (Elt F) :=
  Host.exp (val_main_call5_v5 (F := F) x0)
theorem val_main_call5_v6_apply (x0 : (⟨S8x19x512x512, .f32⟩ : BufTy).Contents (Elt F)) (i : S8x19x512x512.Idx) :
    val_main_call5_v6 (F := F) x0 i = FloatOps.hostUnary .exp (val_main_call5_v5 (F := F) x0 i) := rfl

def val_main_call5_cst_1 : (⟨S_, .f32⟩ : BufTy).Contents (Elt F) :=
  constant S_ .f32 0x00000000#32
theorem val_main_call5_cst_1_apply (i : S_.Idx) :
    val_main_call5_cst_1 (F := F) i = FloatOps.ofBits .f32 0x00000000#32 := rfl

def val_main_call5_v7 (x0 : (⟨S8x19x512x512, .f32⟩ : BufTy).Contents (Elt F)) : (⟨S8x512x512, .f32⟩ : BufTy).Contents (Elt F) :=
  Host.reduceAdd (val_main_call5_v6 (F := F) x0) (val_main_call5_cst_1 (F := F)) reducesTo_S8x19x512x512_S8x512x512_d1 h_S_
abbrev idx_main_call5_v7 (i : S8x512x512.Idx) (k : Fin 19) : S8x19x512x512.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
/-- Stated at `F := Ideal`, where the host's float sum is this sum; at a bit-exact instance it is an opaque function of its operand. -/
theorem val_main_call5_v7_apply (x0 : (⟨S8x19x512x512, .f32⟩ : BufTy).Contents (Elt Ideal)) (i : S8x512x512.Idx) :
    val_main_call5_v7 (F := Ideal) x0 i = (val_main_call5_cst_1 (F := Ideal)) (Shape.Idx.first h_S_) + ∑ k : Fin 19, (val_main_call5_v6 (F := Ideal) x0) (idx_main_call5_v7 i k) := by
  unfold val_main_call5_v7
  generalize val_main_call5_v6 (F := Ideal) x0 = y0
  simp only [Host.reduceAdd, Ideal.hostReduceAdd_def]
  rw [Ideal.hostReduceAdd_single reducesTo_S8x19x512x512_S8x512x512_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

def val_main_call5_v8 (x0 : (⟨S8x19x512x512, .f32⟩ : BufTy).Contents (Elt F)) : (⟨S8x1x512x512, .f32⟩ : BufTy).Contents (Elt F) :=
  broadcastInDim S8x1x512x512 ![0, 2, 3] bcast_S8x512x512_S8x1x512x512_0_2_3 (val_main_call5_v7 (F := F) x0)
abbrev idx_main_call5_v8 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_call5_v8_apply (x0 : (⟨S8x19x512x512, .f32⟩ : BufTy).Contents (Elt F)) (i : S8x1x512x512.Idx) :
    val_main_call5_v8 (F := F) x0 i = val_main_call5_v7 (F := F) x0 (idx_main_call5_v8 i) := by
  unfold val_main_call5_v8
  generalize val_main_call5_v7 (F := F) x0 = y
  exact broadcastInDim_apply _ bcast_S8x512x512_S8x1x512x512_0_2_3 y i (idx_main_call5_v8 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call5_v9 (x0 : (⟨S8x19x512x512, .f32⟩ : BufTy).Contents (Elt F)) : (⟨S8x1x512x512, .f32⟩ : BufTy).Contents (Elt F) :=
  Host.log (val_main_call5_v8 (F := F) x0)
theorem val_main_call5_v9_apply (x0 : (⟨S8x19x512x512, .f32⟩ : BufTy).Contents (Elt F)) (i : S8x1x512x512.Idx) :
    val_main_call5_v9 (F := F) x0 i = FloatOps.hostUnary .log (val_main_call5_v8 (F := F) x0 i) := rfl

def val_main_call5_v10 (x0 : (⟨S8x19x512x512, .f32⟩ : BufTy).Contents (Elt F)) : (⟨S8x19x512x512, .f32⟩ : BufTy).Contents (Elt F) :=
  broadcastInDim S8x19x512x512 ![0, 1, 2, 3] bcast_S8x1x512x512_S8x19x512x512_0_1_2_3 (val_main_call5_v9 (F := F) x0)
abbrev idx_main_call5_v10 (i : S8x19x512x512.Idx) : S8x1x512x512.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_call5_v10_apply (x0 : (⟨S8x19x512x512, .f32⟩ : BufTy).Contents (Elt F)) (i : S8x19x512x512.Idx) :
    val_main_call5_v10 (F := F) x0 i = val_main_call5_v9 (F := F) x0 (idx_main_call5_v10 i) := by
  unfold val_main_call5_v10
  generalize val_main_call5_v9 (F := F) x0 = y
  exact broadcastInDim_apply _ bcast_S8x1x512x512_S8x19x512x512_0_1_2_3 y i (idx_main_call5_v10 i) (fun a => match a with
    | ⟨0, _⟩ => by show (i 0).val = if (8 : Nat) = 1 then 0 else (i 0).val; rw [if_neg (by decide)]
    | ⟨1, _⟩ => by show 0 = if (1 : Nat) = 1 then 0 else (i 1).val; rw [if_pos rfl]
    | ⟨2, _⟩ => by show (i 2).val = if (512 : Nat) = 1 then 0 else (i 2).val; rw [if_neg (by decide)]
    | ⟨3, _⟩ => by show (i 3).val = if (512 : Nat) = 1 then 0 else (i 3).val; rw [if_neg (by decide)])

def val_main_v34 (x0 : (⟨S8x19x512x512, .f32⟩ : BufTy).Contents (Elt F)) : (⟨S8x19x512x512, .f32⟩ : BufTy).Contents (Elt F) :=
  subf (val_main_call5_v5 (F := F) x0) (val_main_call5_v10 (F := F) x0)
theorem val_main_v34_apply (x0 : (⟨S8x19x512x512, .f32⟩ : BufTy).Contents (Elt F)) (i : S8x19x512x512.Idx) :
    val_main_v34 (F := F) x0 i = FloatOps.subf (val_main_call5_v5 (F := F) x0 i) (val_main_call5_v10 (F := F) x0 i) := rfl

def val_main_c_13 : (⟨S_, .i32⟩ : BufTy).Contents (Elt F) :=
  constantI S_ 32 0#32
theorem val_main_c_13_apply (i : S_.Idx) :
    val_main_c_13 (F := F) i = 0#32 := rfl

def val_main_c_14 : (⟨S_, .i32⟩ : BufTy).Contents (Elt F) :=
  constantI S_ 32 18#32
theorem val_main_c_14_apply (i : S_.Idx) :
    val_main_c_14 (F := F) i = 18#32 := rfl

def val_main_call6_v0 : (⟨S_, .i32⟩ : BufTy).Contents (Elt F) :=
  id (val_main_c_13 (F := F))
theorem val_main_call6_v0_apply (i : S_.Idx) :
    val_main_call6_v0 (F := F) i = (val_main_c_13 (F := F) i) := rfl

def val_main_call6_v1 : (⟨S8x512x512, .i32⟩ : BufTy).Contents (Elt F) :=
  broadcastInDim S8x512x512 ![] bcast_S_S8x512x512 (val_main_call6_v0 (F := F))
abbrev idx_main_call6_v1 (i : S8x512x512.Idx) : S_.Idx := fun a => a.elim0
theorem val_main_call6_v1_apply (i : S8x512x512.Idx) :
    val_main_call6_v1 (F := F) i = val_main_call6_v0 (F := F) (idx_main_call6_v1 i) := by
  unfold val_main_call6_v1
  generalize val_main_call6_v0 (F := F) = y
  exact broadcastInDim_apply _ bcast_S_S8x512x512 y i (idx_main_call6_v1 i) (fun a => a.elim0)

def val_main_call6_v2 (x1 : (⟨S8x512x512, .i32⟩ : BufTy).Contents (Elt F)) : (⟨S8x512x512, .i32⟩ : BufTy).Contents (Elt F) :=
  maxsi (val_main_call6_v1 (F := F)) (x1)
theorem val_main_call6_v2_apply (x1 : (⟨S8x512x512, .i32⟩ : BufTy).Contents (Elt F)) (i : S8x512x512.Idx) :
    val_main_call6_v2 (F := F) x1 i = IntOp.maxsi (val_main_call6_v1 (F := F) i) (x1 i) := rfl

def val_main_call6_v3 : (⟨S_, .i32⟩ : BufTy).Contents (Elt F) :=
  id (val_main_c_14 (F := F))
theorem val_main_call6_v3_apply (i : S_.Idx) :
    val_main_call6_v3 (F := F) i = (val_main_c_14 (F := F) i) := rfl

def val_main_call6_v4 : (⟨S8x512x512, .i32⟩ : BufTy).Contents (Elt F) :=
  broadcastInDim S8x512x512 ![] bcast_S_S8x512x512 (val_main_call6_v3 (F := F))
abbrev idx_main_call6_v4 (i : S8x512x512.Idx) : S_.Idx := fun a => a.elim0
theorem val_main_call6_v4_apply (i : S8x512x512.Idx) :
    val_main_call6_v4 (F := F) i = val_main_call6_v3 (F := F) (idx_main_call6_v4 i) := by
  unfold val_main_call6_v4
  generalize val_main_call6_v3 (F := F) = y
  exact broadcastInDim_apply _ bcast_S_S8x512x512 y i (idx_main_call6_v4 i) (fun a => a.elim0)

def val_main_v35 (x1 : (⟨S8x512x512, .i32⟩ : BufTy).Contents (Elt F)) : (⟨S8x512x512, .i32⟩ : BufTy).Contents (Elt F) :=
  minsi (val_main_call6_v4 (F := F)) (val_main_call6_v2 (F := F) x1)
theorem val_main_v35_apply (x1 : (⟨S8x512x512, .i32⟩ : BufTy).Contents (Elt F)) (i : S8x512x512.Idx) :
    val_main_v35 (F := F) x1 i = IntOp.minsi (val_main_call6_v4 (F := F) i) (val_main_call6_v2 (F := F) x1 i) := rfl

def val_main_v36 (x1 : (⟨S8x512x512, .i32⟩ : BufTy).Contents (Elt F)) : (⟨S8x1x512x512, .i32⟩ : BufTy).Contents (Elt F) :=
  broadcastInDim S8x1x512x512 ![0, 2, 3] bcast_S8x512x512_S8x1x512x512_0_2_3 (val_main_v35 (F := F) x1)
abbrev idx_main_v36 (i : S8x1x512x512.Idx) : S8x512x512.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v36_apply (x1 : (⟨S8x512x512, .i32⟩ : BufTy).Contents (Elt F)) (i : S8x1x512x512.Idx) :
    val_main_v36 (F := F) x1 i = val_main_v35 (F := F) x1 (idx_main_v36 i) := by
  unfold val_main_v36
  generalize val_main_v35 (F := F) x1 = y
  exact broadcastInDim_apply _ bcast_S8x512x512_S8x1x512x512_0_2_3 y i (idx_main_v36 i) (fun a => match a with
    | ⟨0, _⟩ => by show (i 0).val = if (8 : Nat) = 1 then 0 else (i 0).val; rw [if_neg (by decide)]
    | ⟨1, _⟩ => by show (i 2).val = if (512 : Nat) = 1 then 0 else (i 2).val; rw [if_neg (by decide)]
    | ⟨2, _⟩ => by show (i 3).val = if (512 : Nat) = 1 then 0 else (i 3).val; rw [if_neg (by decide)])

def val_main_call7_c : (⟨S_, .i32⟩ : BufTy).Contents (Elt F) :=
  constantI S_ 32 0#32
theorem val_main_call7_c_apply (i : S_.Idx) :
    val_main_call7_c (F := F) i = 0#32 := rfl

def val_main_call7_v0 : (⟨S8x1x512x512, .i32⟩ : BufTy).Contents (Elt F) :=
  broadcastInDim S8x1x512x512 ![] bcast_S_S8x1x512x512 (val_main_call7_c (F := F))
abbrev idx_main_call7_v0 (i : S8x1x512x512.Idx) : S_.Idx := fun a => a.elim0
theorem val_main_call7_v0_apply (i : S8x1x512x512.Idx) :
    val_main_call7_v0 (F := F) i = val_main_call7_c (F := F) (idx_main_call7_v0 i) := by
  unfold val_main_call7_v0
  generalize val_main_call7_c (F := F) = y
  exact broadcastInDim_apply _ bcast_S_S8x1x512x512 y i (idx_main_call7_v0 i) (fun a => a.elim0)

def val_main_call7_v1 (x1 : (⟨S8x512x512, .i32⟩ : BufTy).Contents (Elt F)) : (⟨S8x1x512x512, .i1⟩ : BufTy).Contents (Elt F) :=
  cmpi .slt (val_main_v36 (F := F) x1) (val_main_call7_v0 (F := F))
theorem val_main_call7_v1_apply (x1 : (⟨S8x512x512, .i32⟩ : BufTy).Contents (Elt F)) (i : S8x1x512x512.Idx) :
    val_main_call7_v1 (F := F) x1 i = IntOp.cmpi .slt (val_main_v36 (F := F) x1 i) (val_main_call7_v0 (F := F) i) := rfl

def val_main_call7_c_0 : (⟨S_, .i32⟩ : BufTy).Contents (Elt F) :=
  constantI S_ 32 19#32
theorem val_main_call7_c_0_apply (i : S_.Idx) :
    val_main_call7_c_0 (F := F) i = 19#32 := rfl

def val_main_call7_v2 : (⟨S8x1x512x512, .i32⟩ : BufTy).Contents (Elt F) :=
  broadcastInDim S8x1x512x512 ![] bcast_S_S8x1x512x512 (val_main_call7_c_0 (F := F))
abbrev idx_main_call7_v2 (i : S8x1x512x512.Idx) : S_.Idx := fun a => a.elim0
theorem val_main_call7_v2_apply (i : S8x1x512x512.Idx) :
    val_main_call7_v2 (F := F) i = val_main_call7_c_0 (F := F) (idx_main_call7_v2 i) := by
  unfold val_main_call7_v2
  generalize val_main_call7_c_0 (F := F) = y
  exact broadcastInDim_apply _ bcast_S_S8x1x512x512 y i (idx_main_call7_v2 i) (fun a => a.elim0)

def val_main_call7_v3 (x1 : (⟨S8x512x512, .i32⟩ : BufTy).Contents (Elt F)) : (⟨S8x1x512x512, .i32⟩ : BufTy).Contents (Elt F) :=
  addi (val_main_v36 (F := F) x1) (val_main_call7_v2 (F := F))
theorem val_main_call7_v3_apply (x1 : (⟨S8x512x512, .i32⟩ : BufTy).Contents (Elt F)) (i : S8x1x512x512.Idx) :
    val_main_call7_v3 (F := F) x1 i = IntOp.addi (val_main_v36 (F := F) x1 i) (val_main_call7_v2 (F := F) i) := rfl

def val_main_call7_v4 (x1 : (⟨S8x512x512, .i32⟩ : BufTy).Contents (Elt F)) : (⟨S8x1x512x512, .i32⟩ : BufTy).Contents (Elt F) :=
  select (val_main_call7_v1 (F := F) x1) (val_main_call7_v3 (F := F) x1) (val_main_v36 (F := F) x1)
theorem val_main_call7_v4_apply (x1 : (⟨S8x512x512, .i32⟩ : BufTy).Contents (Elt F)) (i : S8x1x512x512.Idx) :
    val_main_call7_v4 (F := F) x1 i = Scalar.select (val_main_call7_v1 (F := F) x1 i) (val_main_call7_v3 (F := F) x1 i) (val_main_v36 (F := F) x1 i) := rfl

def val_main_call7_v5 (x1 : (⟨S8x512x512, .i32⟩ : BufTy).Contents (Elt F)) : (⟨S8x1x512x512x1, .i32⟩ : BufTy).Contents (Elt F) :=
  shapeCast _ (val_main_call7_v4 (F := F) x1) shapeCasts_S8x1x512x512_S8x1x512x512x1
set_option backward.proofsInPublic true in
abbrev idx_main_call7_v5 (i : S8x1x512x512x1.Idx) : S8x1x512x512.Idx := fun a => match a with
  | ⟨0, _⟩ => ⟨(((((i 0).val * 1 + (i 1).val) * 512 + (i 2).val) * 512 + (i 3).val) * 1 + (i 4).val) / 262144, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) / 262144 < 8; omega⟩
  | ⟨1, _⟩ => ⟨0, Nat.one_pos⟩
  | ⟨2, _⟩ => ⟨(((((i 0).val * 1 + (i 1).val) * 512 + (i 2).val) * 512 + (i 3).val) * 1 + (i 4).val) / 512 % 512, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) / 512 % 512 < 512; omega⟩
  | ⟨3, _⟩ => ⟨(((((i 0).val * 1 + (i 1).val) * 512 + (i 2).val) * 512 + (i 3).val) * 1 + (i 4).val) % 512, by have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((i 0).val * 1 + (i 1).val) * 512 + (i 2).val) * 512 + (i 3).val) * 1 + (i 4).val) % 512 < 512; omega⟩
theorem val_main_call7_v5_apply (x1 : (⟨S8x512x512, .i32⟩ : BufTy).Contents (Elt F)) (i : S8x1x512x512x1.Idx) :
    val_main_call7_v5 (F := F) x1 i = val_main_call7_v4 (F := F) x1 (idx_main_call7_v5 i) := by
  unfold val_main_call7_v5
  generalize val_main_call7_v4 (F := F) x1 = y
  exact shapeCast_apply y shapeCasts_S8x1x512x512_S8x1x512x512x1 i (idx_main_call7_v5 i)
    (by rewrite [Shape.rowMajor_val_four, Shape.rowMajor_val_five]; have h0 : (i 0).val < 8 := (i 0).isLt; have h1 : (i 1).val < 1 := (i 1).isLt; have h2 : (i 2).val < 512 := (i 2).isLt; have h3 : (i 3).val < 512 := (i 3).isLt; have h4 : (i 4).val < 1 := (i 4).isLt; show (((((((i 0).val * 1 + (i 1).val) * 512 + (i 2).val) * 512 + (i 3).val) * 1 + (i 4).val) / 262144 * 1 + 0) * 512 + (((((i 0).val * 1 + (i 1).val) * 512 + (i 2).val) * 512 + (i 3).val) * 1 + (i 4).val) / 512 % 512) * 512 + (((((i 0).val * 1 + (i 1).val) * 512 + (i 2).val) * 512 + (i 3).val) * 1 + (i 4).val) % 512 = ((((i 0).val * 1 + (i 1).val) * 512 + (i 2).val) * 512 + (i 3).val) * 1 + (i 4).val; omega)

def val_main_call7_c_1 : (⟨S1, .i32⟩ : BufTy).Contents (Elt F) :=
  constantI S1 32 18#32
theorem val_main_call7_c_1_apply (i : S1.Idx) :
    val_main_call7_c_1 (F := F) i = 18#32 := rfl

def val_main_call7_c_2 : (⟨S_, .i32⟩ : BufTy).Contents (Elt F) :=
  constantI S_ 32 0#32
theorem val_main_call7_c_2_apply (i : S_.Idx) :
    val_main_call7_c_2 (F := F) i = 0#32 := rfl

def val_main_call7_v6 : (⟨S8x1x512x512x1, .i32⟩ : BufTy).Contents (Elt F) :=
  broadcastInDim S8x1x512x512x1 ![] bcast_S_S8x1x512x512x1 (val_main_call7_c_2 (F := F))
abbrev idx_main_call7_v6 (i : S8x1x512x512x1.Idx) : S_.Idx := fun a => a.elim0
theorem val_main_call7_v6_apply (i : S8x1x512x512x1.Idx) :
    val_main_call7_v6 (F := F) i = val_main_call7_c_2 (F := F) (idx_main_call7_v6 i) := by
  unfold val_main_call7_v6
  generalize val_main_call7_c_2 (F := F) = y
  exact broadcastInDim_apply _ bcast_S_S8x1x512x512x1 y i (idx_main_call7_v6 i) (fun a => a.elim0)

def val_main_call7_v7 (x1 : (⟨S8x512x512, .i32⟩ : BufTy).Contents (Elt F)) : (⟨S8x1x512x512x1, .i1⟩ : BufTy).Contents (Elt F) :=
  cmpi .sge (val_main_call7_v5 (F := F) x1) (val_main_call7_v6 (F := F))
theorem val_main_call7_v7_apply (x1 : (⟨S8x512x512, .i32⟩ : BufTy).Contents (Elt F)) (i : S8x1x512x512x1.Idx) :
    val_main_call7_v7 (F := F) x1 i = IntOp.cmpi .sge (val_main_call7_v5 (F := F) x1 i) (val_main_call7_v6 (F := F) i) := rfl

def val_main_call7_v8 : (⟨S1x1x1x1x1, .i32⟩ : BufTy).Contents (Elt F) :=
  broadcastInDim S1x1x1x1x1 ![4] bcast_S1_S1x1x1x1x1_4 (val_main_call7_c_1 (F := F))
abbrev idx_main_call7_v8 (i : S1x1x1x1x1.Idx) : S1.Idx := fun a => match a with
  | ⟨0, _⟩ => ⟨0, Nat.one_pos⟩
theorem val_main_call7_v8_apply (i : S1x1x1x1x1.Idx) :
    val_main_call7_v8 (F := F) i = val_main_call7_c_1 (F := F) (idx_main_call7_v8 i) := by
  unfold val_main_call7_v8
  generalize val_main_call7_c_1 (F := F) = y
  exact broadcastInDim_apply _ bcast_S1_S1x1x1x1x1_4 y i (idx_main_call7_v8 i) (fun a => match a with
    | ⟨0, _⟩ => by show 0 = if (1 : Nat) = 1 then 0 else (i 4).val; rw [if_pos rfl])

def val_main_call7_v9 : (⟨S8x1x512x512x1, .i32⟩ : BufTy).Contents (Elt F) :=
  broadcastInDim S8x1x512x512x1 ![0, 1, 2, 3, 4] bcast_S1x1x1x1x1_S8x1x512x512x1_0_1_2_3_4 (val_main_call7_v8 (F := F))
abbrev idx_main_call7_v9 (i : S8x1x512x512x1.Idx) : S1x1x1x1x1.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨0, Nat.one_pos⟩
theorem val_main_call7_v9_apply (i : S8x1x512x512x1.Idx) :
    val_main_call7_v9 (F := F) i = val_main_call7_v8 (F := F) (idx_main_call7_v9 i) := by
  unfold val_main_call7_v9
  generalize val_main_call7_v8 (F := F) = y
  exact broadcastInDim_apply _ bcast_S1x1x1x1x1_S8x1x512x512x1_0_1_2_3_4 y i (idx_main_call7_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show 0 = if (1 : Nat) = 1 then 0 else (i 4).val; rw [if_pos rfl])

def val_main_call7_v10 (x1 : (⟨S8x512x512, .i32⟩ : BufTy).Contents (Elt F)) : (⟨S8x1x512x512x1, .i1⟩ : BufTy).Contents (Elt F) :=
  cmpi .sle (val_main_call7_v5 (F := F) x1) (val_main_call7_v9 (F := F))
theorem val_main_call7_v10_apply (x1 : (⟨S8x512x512, .i32⟩ : BufTy).Contents (Elt F)) (i : S8x1x512x512x1.Idx) :
    val_main_call7_v10 (F := F) x1 i = IntOp.cmpi .sle (val_main_call7_v5 (F := F) x1 i) (val_main_call7_v9 (F := F) i) := rfl

def val_main_call7_v11 (x1 : (⟨S8x512x512, .i32⟩ : BufTy).Contents (Elt F)) : (⟨S8x1x512x512x1, .i1⟩ : BufTy).Contents (Elt F) :=
  andi (val_main_call7_v7 (F := F) x1) (val_main_call7_v10 (F := F) x1)
theorem val_main_call7_v11_apply (x1 : (⟨S8x512x512, .i32⟩ : BufTy).Contents (Elt F)) (i : S8x1x512x512x1.Idx) :
    val_main_call7_v11 (F := F) x1 i = IntOp.andi (val_main_call7_v7 (F := F) x1 i) (val_main_call7_v10 (F := F) x1 i) := rfl

def val_main_call7_c_3 : (⟨S_, .i1⟩ : BufTy).Contents (Elt F) :=
  constantI S_ 1 1#1
theorem val_main_call7_c_3_apply (i : S_.Idx) :
    val_main_call7_c_3 (F := F) i = 1#1 := rfl

def val_main_call7_v12 (x1 : (⟨S8x512x512, .i32⟩ : BufTy).Contents (Elt F)) : (⟨S8x1x512x512, .i1⟩ : BufTy).Contents (Elt F) :=
  Host.reduce IntOp.andi (val_main_call7_v11 (F := F) x1) (val_main_call7_c_3 (F := F)) reducesTo_S8x1x512x512x1_S8x1x512x512_d4 h_S_

def val_main_call7_v13 (x0 : (⟨S8x19x512x512, .f32⟩ : BufTy).Contents (Elt F)) (x1 : (⟨S8x512x512, .i32⟩ : BufTy).Contents (Elt F)) : (⟨S8x1x512x512, .f32⟩ : BufTy).Contents (Elt F) :=
  Host.gather gather_S8x19x512x512_S8x1x512x512x1_S8x1x512x512_n_1_023_023_1_4_1111 (val_main_v34 (F := F) x0) (val_main_call7_v5 (F := F) x1)

def val_main_call7_cst : (⟨S_, .f32⟩ : BufTy).Contents (Elt F) :=
  constant S_ .f32 0x7FC00000#32
theorem val_main_call7_cst_apply (i : S_.Idx) :
    val_main_call7_cst (F := F) i = FloatOps.ofBits .f32 0x7FC00000#32 := rfl

def val_main_call7_v14 : (⟨S8x1x512x512, .f32⟩ : BufTy).Contents (Elt F) :=
  broadcastInDim S8x1x512x512 ![] bcast_S_S8x1x512x512 (val_main_call7_cst (F := F))
abbrev idx_main_call7_v14 (i : S8x1x512x512.Idx) : S_.Idx := fun a => a.elim0
theorem val_main_call7_v14_apply (i : S8x1x512x512.Idx) :
    val_main_call7_v14 (F := F) i = val_main_call7_cst (F := F) (idx_main_call7_v14 i) := by
  unfold val_main_call7_v14
  generalize val_main_call7_cst (F := F) = y
  exact broadcastInDim_apply _ bcast_S_S8x1x512x512 y i (idx_main_call7_v14 i) (fun a => a.elim0)

def val_main_v37 (x0 : (⟨S8x19x512x512, .f32⟩ : BufTy).Contents (Elt F)) (x1 : (⟨S8x512x512, .i32⟩ : BufTy).Contents (Elt F)) : (⟨S8x1x512x512, .f32⟩ : BufTy).Contents (Elt F) :=
  select (val_main_call7_v12 (F := F) x1) (val_main_call7_v13 (F := F) x0 x1) (val_main_call7_v14 (F := F))
theorem val_main_v37_apply (x0 : (⟨S8x19x512x512, .f32⟩ : BufTy).Contents (Elt F)) (x1 : (⟨S8x512x512, .i32⟩ : BufTy).Contents (Elt F)) (i : S8x1x512x512.Idx) :
    val_main_v37 (F := F) x0 x1 i = Scalar.select (val_main_call7_v12 (F := F) x1 i) (val_main_call7_v13 (F := F) x0 x1 i) (val_main_call7_v14 (F := F) i) := rfl

def val_main_v38 (x0 : (⟨S8x19x512x512, .f32⟩ : BufTy).Contents (Elt F)) (x1 : (⟨S8x512x512, .i32⟩ : BufTy).Contents (Elt F)) : (⟨S8x512x512, .f32⟩ : BufTy).Contents (Elt F) :=
  shapeCast _ (val_main_v37 (F := F) x0 x1) shapeCasts_S8x1x512x512_S8x512x512
set_option backward.proofsInPublic true in
abbrev idx_main_v38 (i : S8x512x512.Idx) : S8x1x512x512.Idx := fun a => match a with
  | ⟨0, _⟩ => ⟨(((i 0).val * 512 + (i 1).val) * 512 + (i 2).val) / 262144, by have h0 : (i 0).val < 8 := (i 0).isLt; have h1 : (i 1).val < 512 := (i 1).isLt; have h2 : (i 2).val < 512 := (i 2).isLt; show (((i 0).val * 512 + (i 1).val) * 512 + (i 2).val) / 262144 < 8; omega⟩
  | ⟨1, _⟩ => ⟨0, Nat.one_pos⟩
  | ⟨2, _⟩ => ⟨(((i 0).val * 512 + (i 1).val) * 512 + (i 2).val) / 512 % 512, by have h0 : (i 0).val < 8 := (i 0).isLt; have h1 : (i 1).val < 512 := (i 1).isLt; have h2 : (i 2).val < 512 := (i 2).isLt; show (((i 0).val * 512 + (i 1).val) * 512 + (i 2).val) / 512 % 512 < 512; omega⟩
  | ⟨3, _⟩ => ⟨(((i 0).val * 512 + (i 1).val) * 512 + (i 2).val) % 512, by have h0 : (i 0).val < 8 := (i 0).isLt; have h1 : (i 1).val < 512 := (i 1).isLt; have h2 : (i 2).val < 512 := (i 2).isLt; show (((i 0).val * 512 + (i 1).val) * 512 + (i 2).val) % 512 < 512; omega⟩
theorem val_main_v38_apply (x0 : (⟨S8x19x512x512, .f32⟩ : BufTy).Contents (Elt F)) (x1 : (⟨S8x512x512, .i32⟩ : BufTy).Contents (Elt F)) (i : S8x512x512.Idx) :
    val_main_v38 (F := F) x0 x1 i = val_main_v37 (F := F) x0 x1 (idx_main_v38 i) := by
  unfold val_main_v38
  generalize val_main_v37 (F := F) x0 x1 = y
  exact shapeCast_apply y shapeCasts_S8x1x512x512_S8x512x512 i (idx_main_v38 i)
    (by rewrite [Shape.rowMajor_val_four, Shape.rowMajor_val_three]; have h0 : (i 0).val < 8 := (i 0).isLt; have h1 : (i 1).val < 512 := (i 1).isLt; have h2 : (i 2).val < 512 := (i 2).isLt; show (((((i 0).val * 512 + (i 1).val) * 512 + (i 2).val) / 262144 * 1 + 0) * 512 + (((i 0).val * 512 + (i 1).val) * 512 + (i 2).val) / 512 % 512) * 512 + (((i 0).val * 512 + (i 1).val) * 512 + (i 2).val) % 512 = ((i 0).val * 512 + (i 1).val) * 512 + (i 2).val; omega)

def val_main_v39 (x0 : (⟨S8x19x512x512, .f32⟩ : BufTy).Contents (Elt F)) (x1 : (⟨S8x512x512, .i32⟩ : BufTy).Contents (Elt F)) : (⟨S8x512x512, .f32⟩ : BufTy).Contents (Elt F) :=
  Host.negf (val_main_v38 (F := F) x0 x1)
theorem val_main_v39_apply (x0 : (⟨S8x19x512x512, .f32⟩ : BufTy).Contents (Elt F)) (x1 : (⟨S8x512x512, .i32⟩ : BufTy).Contents (Elt F)) (i : S8x512x512.Idx) :
    val_main_v39 (F := F) x0 x1 i = FloatOps.hostNegf (val_main_v38 (F := F) x0 x1 i) := rfl

def val_main_c_15 : (⟨S_, .i32⟩ : BufTy).Contents (Elt F) :=
  constantI S_ 32 255#32
theorem val_main_c_15_apply (i : S_.Idx) :
    val_main_c_15 (F := F) i = 255#32 := rfl

def val_main_v40 : (⟨S8x512x512, .i32⟩ : BufTy).Contents (Elt F) :=
  broadcastInDim S8x512x512 ![] bcast_S_S8x512x512 (val_main_c_15 (F := F))
abbrev idx_main_v40 (i : S8x512x512.Idx) : S_.Idx := fun a => a.elim0
theorem val_main_v40_apply (i : S8x512x512.Idx) :
    val_main_v40 (F := F) i = val_main_c_15 (F := F) (idx_main_v40 i) := by
  unfold val_main_v40
  generalize val_main_c_15 (F := F) = y
  exact broadcastInDim_apply _ bcast_S_S8x512x512 y i (idx_main_v40 i) (fun a => a.elim0)

def val_main_v41 (x1 : (⟨S8x512x512, .i32⟩ : BufTy).Contents (Elt F)) : (⟨S8x512x512, .i1⟩ : BufTy).Contents (Elt F) :=
  cmpi .ne (x1) (val_main_v40 (F := F))
theorem val_main_v41_apply (x1 : (⟨S8x512x512, .i32⟩ : BufTy).Contents (Elt F)) (i : S8x512x512.Idx) :
    val_main_v41 (F := F) x1 i = IntOp.cmpi .ne (x1 i) (val_main_v40 (F := F) i) := rfl

def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl

def val_main_call8_v0 : (⟨S_, .f32⟩ : BufTy).Contents (Elt F) :=
  id (val_main_cst_16 (F := F))
theorem val_main_call8_v0_apply (i : S_.Idx) :
    val_main_call8_v0 (F := F) i = (val_main_cst_16 (F := F) i) := rfl

def val_main_call8_v1 : (⟨S8x512x512, .f32⟩ : BufTy).Contents (Elt F) :=
  broadcastInDim S8x512x512 ![] bcast_S_S8x512x512 (val_main_call8_v0 (F := F))
abbrev idx_main_call8_v1 (i : S8x512x512.Idx) : S_.Idx := fun a => a.elim0
theorem val_main_call8_v1_apply (i : S8x512x512.Idx) :
    val_main_call8_v1 (F := F) i = val_main_call8_v0 (F := F) (idx_main_call8_v1 i) := by
  unfold val_main_call8_v1
  generalize val_main_call8_v0 (F := F) = y
  exact broadcastInDim_apply _ bcast_S_S8x512x512 y i (idx_main_call8_v1 i) (fun a => a.elim0)

def val_main_v42 (x0 : (⟨S8x19x512x512, .f32⟩ : BufTy).Contents (Elt F)) (x1 : (⟨S8x512x512, .i32⟩ : BufTy).Contents (Elt F)) : (⟨S8x512x512, .f32⟩ : BufTy).Contents (Elt F) :=
  select (val_main_v41 (F := F) x1) (val_main_v39 (F := F) x0 x1) (val_main_call8_v1 (F := F))
theorem val_main_v42_apply (x0 : (⟨S8x19x512x512, .f32⟩ : BufTy).Contents (Elt F)) (x1 : (⟨S8x512x512, .i32⟩ : BufTy).Contents (Elt F)) (i : S8x512x512.Idx) :
    val_main_v42 (F := F) x0 x1 i = Scalar.select (val_main_v41 (F := F) x1 i) (val_main_v39 (F := F) x0 x1 i) (val_main_call8_v1 (F := F) i) := rfl

def val_main_c_17 : (⟨S_, .i32⟩ : BufTy).Contents (Elt F) :=
  constantI S_ 32 0#32
theorem val_main_c_17_apply (i : S_.Idx) :
    val_main_c_17 (F := F) i = 0#32 := rfl

def val_main_v43 : (⟨S8x512x512, .i32⟩ : BufTy).Contents (Elt F) :=
  broadcastInDim S8x512x512 ![] bcast_S_S8x512x512 (val_main_c_17 (F := F))
abbrev idx_main_v43 (i : S8x512x512.Idx) : S_.Idx := fun a => a.elim0
theorem val_main_v43_apply (i : S8x512x512.Idx) :
    val_main_v43 (F := F) i = val_main_c_17 (F := F) (idx_main_v43 i) := by
  unfold val_main_v43
  generalize val_main_c_17 (F := F) = y
  exact broadcastInDim_apply _ bcast_S_S8x512x512 y i (idx_main_v43 i) (fun a => a.elim0)

def val_main_v44 (x1 : (⟨S8x512x512, .i32⟩ : BufTy).Contents (Elt F)) : (⟨S8x512x512, .i1⟩ : BufTy).Contents (Elt F) :=
  cmpi .slt (x1) (val_main_v43 (F := F))
theorem val_main_v44_apply (x1 : (⟨S8x512x512, .i32⟩ : BufTy).Contents (Elt F)) (i : S8x512x512.Idx) :
    val_main_v44 (F := F) x1 i = IntOp.cmpi .slt (x1 i) (val_main_v43 (F := F) i) := rfl

def val_main_c_18 : (⟨S_, .i32⟩ : BufTy).Contents (Elt F) :=
  constantI S_ 32 256#32
theorem val_main_c_18_apply (i : S_.Idx) :
    val_main_c_18 (F := F) i = 256#32 := rfl

def val_main_v45 : (⟨S8x512x512, .i32⟩ : BufTy).Contents (Elt F) :=
  broadcastInDim S8x512x512 ![] bcast_S_S8x512x512 (val_main_c_18 (F := F))
abbrev idx_main_v45 (i : S8x512x512.Idx) : S_.Idx := fun a => a.elim0
theorem val_main_v45_apply (i : S8x512x512.Idx) :
    val_main_v45 (F := F) i = val_main_c_18 (F := F) (idx_main_v45 i) := by
  unfold val_main_v45
  generalize val_main_c_18 (F := F) = y
  exact broadcastInDim_apply _ bcast_S_S8x512x512 y i (idx_main_v45 i) (fun a => a.elim0)

def val_main_v46 (x1 : (⟨S8x512x512, .i32⟩ : BufTy).Contents (Elt F)) : (⟨S8x512x512, .i32⟩ : BufTy).Contents (Elt F) :=
  addi (x1) (val_main_v45 (F := F))
theorem val_main_v46_apply (x1 : (⟨S8x512x512, .i32⟩ : BufTy).Contents (Elt F)) (i : S8x512x512.Idx) :
    val_main_v46 (F := F) x1 i = IntOp.addi (x1 i) (val_main_v45 (F := F) i) := rfl

def val_main_v47 (x1 : (⟨S8x512x512, .i32⟩ : BufTy).Contents (Elt F)) : (⟨S8x512x512, .i32⟩ : BufTy).Contents (Elt F) :=
  select (val_main_v44 (F := F) x1) (val_main_v46 (F := F) x1) (x1)
theorem val_main_v47_apply (x1 : (⟨S8x512x512, .i32⟩ : BufTy).Contents (Elt F)) (i : S8x512x512.Idx) :
    val_main_v47 (F := F) x1 i = Scalar.select (val_main_v44 (F := F) x1 i) (val_main_v46 (F := F) x1 i) (x1 i) := rfl

def val_main_v48 (x1 : (⟨S8x512x512, .i32⟩ : BufTy).Contents (Elt F)) : (⟨S8x512x512x1, .i32⟩ : BufTy).Contents (Elt F) :=
  broadcastInDim S8x512x512x1 ![0, 1, 2] bcast_S8x512x512_S8x512x512x1_0_1_2 (val_main_v47 (F := F) x1)
abbrev idx_main_v48 (i : S8x512x512x1.Idx) : S8x512x512.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v48_apply (x1 : (⟨S8x512x512, .i32⟩ : BufTy).Contents (Elt F)) (i : S8x512x512x1.Idx) :
    val_main_v48 (F := F) x1 i = val_main_v47 (F := F) x1 (idx_main_v48 i) := by
  unfold val_main_v48
  generalize val_main_v47 (F := F) x1 = y
  exact broadcastInDim_apply _ bcast_S8x512x512_S8x512x512x1_0_1_2 y i (idx_main_v48 i) (fun a => match a with
    | ⟨0, _⟩ => by show (i 0).val = if (8 : Nat) = 1 then 0 else (i 0).val; rw [if_neg (by decide)]
    | ⟨1, _⟩ => by show (i 1).val = if (512 : Nat) = 1 then 0 else (i 1).val; rw [if_neg (by decide)]
    | ⟨2, _⟩ => by show (i 2).val = if (512 : Nat) = 1 then 0 else (i 2).val; rw [if_neg (by decide)])

def val_main_v49 (x0 : (⟨S8x19x512x512, .f32⟩ : BufTy).Contents (Elt F)) (x1 : (⟨S8x512x512, .i32⟩ : BufTy).Contents (Elt F)) : (⟨S8x512x512, .f32⟩ : BufTy).Contents (Elt F) :=
  Host.gather gather_S256_S8x512x512x1_S8x512x512_n_0_n_n_0_3_1 (val_main_v33 (F := F) x0 x1) (val_main_v48 (F := F) x1)

def val_main_v50 (x0 : (⟨S8x19x512x512, .f32⟩ : BufTy).Contents (Elt F)) (x1 : (⟨S8x512x512, .i32⟩ : BufTy).Contents (Elt F)) : (⟨S8x512x512, .f32⟩ : BufTy).Contents (Elt F) :=
  mulf (val_main_v49 (F := F) x0 x1) (val_main_v42 (F := F) x0 x1)
theorem val_main_v50_apply (x0 : (⟨S8x19x512x512, .f32⟩ : BufTy).Contents (Elt F)) (x1 : (⟨S8x512x512, .i32⟩ : BufTy).Contents (Elt F)) (i : S8x512x512.Idx) :
    val_main_v50 (F := F) x0 x1 i = FloatOps.mulf (val_main_v49 (F := F) x0 x1 i) (val_main_v42 (F := F) x0 x1 i) := rfl

def val_main_cst_19 : (⟨S_, .f32⟩ : BufTy).Contents (Elt F) :=
  constant S_ .f32 0x00000000#32
theorem val_main_cst_19_apply (i : S_.Idx) :
    val_main_cst_19 (F := F) i = FloatOps.ofBits .f32 0x00000000#32 := rfl

def val_main_v51 (x0 : (⟨S8x19x512x512, .f32⟩ : BufTy).Contents (Elt F)) (x1 : (⟨S8x512x512, .i32⟩ : BufTy).Contents (Elt F)) : (⟨S_, .f32⟩ : BufTy).Contents (Elt F) :=
  Host.reduceAdd (val_main_v50 (F := F) x0 x1) (val_main_cst_19 (F := F)) reducesTo_S8x512x512_S_d0_1_2 h_S_
/-- Stated at `F := Ideal`, where the host's float sum is this sum; at a bit-exact instance it is an opaque function of its operand. -/
theorem val_main_v51_apply (x0 : (⟨S8x19x512x512, .f32⟩ : BufTy).Contents (Elt Ideal)) (x1 : (⟨S8x512x512, .i32⟩ : BufTy).Contents (Elt Ideal)) (i : S_.Idx) :
    val_main_v51 (F := Ideal) x0 x1 i = (val_main_cst_19 (F := Ideal)) (Shape.Idx.first h_S_) + ∑ j : S8x512x512.Idx, (val_main_v50 (F := Ideal) x0 x1) j := by
  unfold val_main_v51
  generalize val_main_v50 (F := Ideal) x0 x1 = y0
  simp only [Host.reduceAdd, Ideal.hostReduceAdd_def]
  exact Ideal.hostReduceAdd_total reducesTo_S8x512x512_S_d0_1_2 (fun b => b.elim0) y0 _ i

def val_main_cst_20 : (⟨S_, .f32⟩ : BufTy).Contents (Elt F) :=
  constant S_ .f32 0x4A000000#32
theorem val_main_cst_20_apply (i : S_.Idx) :
    val_main_cst_20 (F := F) i = FloatOps.ofBits .f32 0x4A000000#32 := rfl

def val_main_v52 (x0 : (⟨S8x19x512x512, .f32⟩ : BufTy).Contents (Elt F)) (x1 : (⟨S8x512x512, .i32⟩ : BufTy).Contents (Elt F)) : (⟨S_, .f32⟩ : BufTy).Contents (Elt F) :=
  Host.divf (val_main_v51 (F := F) x0 x1) (val_main_cst_20 (F := F))
theorem val_main_v52_apply (x0 : (⟨S8x19x512x512, .f32⟩ : BufTy).Contents (Elt F)) (x1 : (⟨S8x512x512, .i32⟩ : BufTy).Contents (Elt F)) (i : S_.Idx) :
    val_main_v52 (F := F) x0 x1 i = FloatOps.hostDivf (val_main_v51 (F := F) x0 x1 i) (val_main_cst_20 (F := F) i) := rfl

/-- The term the Run module names `res_main_v52` is the stage. -/
theorem val_main_v52_eq (m : (ℓ : Loc nD τ sig) → Buf (Elt F) ℓ) (c : Dev nD) :
    Cert.ReferenceIdeal.Value.res_main_v52 m c = val_main_v52 (F := F) (m ((c.tc : Thread nD τ).loc main_arg0)) (m ((c.tc : Thread nD τ).loc main_arg1)) := by
  unfold Cert.ReferenceIdeal.Value.res_main_v52; rfl

end Cert.ReferenceIdeal.Read

end
-- ==== Proof.Ref.Words.lean ====
module

public import proofs.«01_k».proof.Proof.Ref.Read
public import proofs.«01_k».proof.Proof.Math.Scalar

@[expose] public section

noncomputable section

/-! The index words of the reference: at a label that is a class or the ignored word they are the label itself. -/

namespace Cert.ReferenceIdeal.Read

open Cert.ReferenceIdeal Idealize.ShloMosaic

/-- A label: a class, or the ignored word. -/
def Valid (t : BitVec 32) : Prop := (∃ c : Fin 19, t = BitVec.ofNat 32 c) ∨ t = 255#32

/-- What holds at the nineteen classes and at the ignored word holds of every label. -/
theorem Valid.all {t : BitVec 32} (h : Valid t) {P : BitVec 32 → Prop} (hc : ∀ c : Fin 19, P (BitVec.ofNat 32 c)) (hi : P 255#32) : P t := by
  rcases h with ⟨c, rfl⟩ | rfl
  · exact hc c
  · exact hi

theorem max_zero {t : BitVec 32} (h : Valid t) : IntOp.maxsi 0#32 t = t :=
  h.all (P := fun t => IntOp.maxsi 0#32 t = t) (by decide) (by decide)

theorem wrap {t : BitVec 32} (h : Valid t) (a : BitVec 32) : Scalar.select (IntOp.cmpi .slt t 0#32) a t = t := by
  have e : IntOp.cmpi .slt t 0#32 = 0#1 := h.all (P := fun t => IntOp.cmpi .slt t 0#32 = 0#1) (by decide) (by decide)
  rw [e]; rfl

theorem toInt_eq {t : BitVec 32} (h : Valid t) : t.toInt = (t.toNat : ℤ) :=
  h.all (P := fun t => t.toInt = (t.toNat : ℤ)) (by decide) (by decide)

theorem toNat_lt {t : BitVec 32} (h : Valid t) : t.toNat < 256 :=
  h.all (P := fun t => t.toNat < 256) (by decide) (by decide)

variable (x1 : (⟨S8x512x512, .i32⟩ : BufTy).Contents (Elt Ideal))

/-- The first scatter's index words. -/
theorem v11_eq (hv : ∀ j, Valid (x1 j)) (i : S2097152x1.Idx) : val_main_v11 (F := Ideal) x1 i = x1 (idx_main_v3 (idx_main_v11 i)) := by
  have h5 : val_main_v5 (F := Ideal) x1 (idx_main_v11 i) = x1 (idx_main_v3 (idx_main_v11 i)) := by
    rw [val_main_v5_apply, val_main_call1_v1_apply, val_main_v3_apply]
    exact max_zero (hv _)
  rw [val_main_v11_apply, val_main_v10_apply, val_main_v7_apply, h5, val_main_v6_apply]
  exact wrap (hv _) _

/-- The second scatter's. -/
theorem v26_eq (hv : ∀ j, Valid (x1 j)) (i : S2097152x1.Idx) : val_main_v26 (F := Ideal) x1 i = x1 (idx_main_v3 (idx_main_v26 i)) := by
  have h5 : val_main_v20 (F := Ideal) x1 (idx_main_v26 i) = x1 (idx_main_v3 (idx_main_v26 i)) := by
    rw [val_main_v20_apply, val_main_call3_v1_apply, val_main_v3_apply]
    exact max_zero (hv _)
  rw [val_main_v26_apply, val_main_v25_apply, val_main_v22_apply, h5, val_main_v21_apply]
  exact wrap (hv _) _

/-- The weights' gather's. -/
theorem v48_eq (hv : ∀ j, Valid (x1 j)) (i : S8x512x512x1.Idx) : val_main_v48 (F := Ideal) x1 i = x1 (idx_main_v48 i) := by
  rw [val_main_v48_apply, val_main_v47_apply, val_main_v44_apply, val_main_v43_apply]
  exact wrap (hv _) _

/-- The class index of the logits' gather, within the classes. -/
def clip (t : BitVec 32) : BitVec 32 := IntOp.minsi 18#32 (IntOp.maxsi 0#32 t)

theorem clip_wrap {t : BitVec 32} (h : Valid t) (a : BitVec 32) : Scalar.select (IntOp.cmpi .slt (clip t) 0#32) a (clip t) = clip t := by
  have e : IntOp.cmpi .slt (clip t) 0#32 = 0#1 := h.all (P := fun t => IntOp.cmpi .slt (clip t) 0#32 = 0#1) (by decide) (by decide)
  rw [e]; rfl

theorem clip_in {t : BitVec 32} (h : Valid t) : IntOp.andi (IntOp.cmpi .sge (clip t) 0#32) (IntOp.cmpi .sle (clip t) 18#32) = 1#1 :=
  h.all (P := fun t => IntOp.andi (IntOp.cmpi .sge (clip t) 0#32) (IntOp.cmpi .sle (clip t) 18#32) = 1#1) (by decide) (by decide)

theorem clip_class (c : Fin 19) : clip (BitVec.ofNat 32 c) = BitVec.ofNat 32 c := by revert c; decide

theorem v36_eq (i : S8x1x512x512.Idx) : val_main_v36 (F := Ideal) x1 i = clip (x1 (idx_main_v36 i)) := by
  rw [val_main_v36_apply, val_main_v35_apply, val_main_call6_v2_apply, val_main_call6_v1_apply, val_main_call6_v4_apply]
  rfl

theorem call7_v4_eq (hv : ∀ j, Valid (x1 j)) (i : S8x1x512x512.Idx) : val_main_call7_v4 (F := Ideal) x1 i = clip (x1 (idx_main_v36 i)) := by
  rw [val_main_call7_v4_apply, val_main_call7_v1_apply, v36_eq, val_main_call7_v0_apply]
  exact clip_wrap (hv _) _

theorem call7_v5_eq (hv : ∀ j, Valid (x1 j)) (i : S8x1x512x512x1.Idx) :
    val_main_call7_v5 (F := Ideal) x1 i = clip (x1 (idx_main_v36 (idx_main_call7_v5 i))) := by
  rw [val_main_call7_v5_apply, call7_v4_eq x1 hv]

theorem call7_v11_eq (hv : ∀ j, Valid (x1 j)) (i : S8x1x512x512x1.Idx) : val_main_call7_v11 (F := Ideal) x1 i = 1#1 := by
  rw [val_main_call7_v11_apply, val_main_call7_v7_apply, val_main_call7_v10_apply, call7_v5_eq x1 hv, val_main_call7_v6_apply,
    val_main_call7_v9_apply, val_main_call7_v8_apply]
  exact clip_in (hv _)

/-- A conjunction of bits that are all one. -/
theorem foldl_and_one {ι : Type} (x : ι → BitVec 1) (hx : ∀ i, x i = 1#1) (l : List ι) :
    l.foldl (fun r i => IntOp.andi r (x i)) 1#1 = 1#1 := by
  induction l with
  | nil => rfl
  | cons a l ih => rw [List.foldl_cons, hx, show IntOp.andi 1#1 1#1 = 1#1 from by decide, ih]

/-- Every gathered logit is within the classes. -/
theorem call7_v12_eq (hv : ∀ j, Valid (x1 j)) (i : S8x1x512x512.Idx) : val_main_call7_v12 (F := Ideal) x1 i = 1#1 := by
  unfold val_main_call7_v12
  rw [Host.reduce_eq_foldl]
  exact foldl_and_one _ (call7_v11_eq x1 hv) _

end Cert.ReferenceIdeal.Read

end
-- ==== Proof.Ref.Argmax.lean ====
module

public import proofs.«01_k».proof.Proof.Ref.Words
public import proofs.«01_k».proof.Proof.Math.Spec

@[expose] public section

noncomputable section

/-! The reference's predicted class: the first among those whose logit is largest. -/

namespace Cert.ReferenceIdeal.Read

open Cert.ReferenceIdeal Cert.ReferenceIdeal.Gen Idealize.ShloMosaic

/-- The reducer on two classes: the larger logit, of equal ones the earlier class. -/
theorem reducer_eq (v w : EReal) (a b : Fin 19) :
    reducer_argmax_f32_i32 (F := Ideal) (v, BitVec.ofNat 32 a) (w, BitVec.ofNat 32 b)
      = if w < v ∨ (v = w ∧ a < b) then (v, BitVec.ofNat 32 a) else (w, BitVec.ofNat 32 b) := by
  have e1 : FloatOps.cmpf (F := Ideal) (φ := .f32) .ogt v w = BitVec.ofBool (decide (w < v)) := rfl
  have e2 : FloatOps.cmpf (F := Ideal) (φ := .f32) .une v v = 0#1 := by simp [Ideal.cmpf_def, Ideal.cmp]
  have e3 : FloatOps.cmpf (F := Ideal) (φ := .f32) .oeq v w = BitVec.ofBool (decide (v = w)) := rfl
  have e4 : IntOp.cmpi .slt (BitVec.ofNat 32 a.val) (BitVec.ofNat 32 b.val) = BitVec.ofBool (decide (a < b)) := by
    revert a b; decide +kernel
  unfold reducer_argmax_f32_i32
  dsimp only
  rw [e1, e2, e3, e4]
  by_cases h1 : w < v
  · have hn : v ≠ w := h1.ne'
    simp [h1, hn, IntOp.ori, IntOp.andi, Scalar.select]
  · by_cases h2 : v = w
    · by_cases h3 : a < b
      · simp [h2, h3, IntOp.ori, IntOp.andi, Scalar.select]
      · simp [h2, h3, IntOp.ori, IntOp.andi, Scalar.select]
    · simp [h1, h2, IntOp.ori, IntOp.andi, Scalar.select]

/-- The fold over a list of classes. -/
theorem foldl_reducer (v : Fin 19 → EReal) (K : List (Fin 19)) (s : EReal) (a : Fin 19) :
    ∃ (r : EReal) (b : Fin 19),
      (K.map fun k => (v k, BitVec.ofNat 32 k.val)).foldl (reducer_argmax_f32_i32 (F := Ideal)) (s, BitVec.ofNat 32 a.val) = (r, BitVec.ofNat 32 b.val)
      ∧ s ≤ r ∧ (∀ k ∈ K, v k ≤ r) ∧ ((r = s ∧ b = a) ∨ ∃ k ∈ K, r = v k ∧ b = k) ∧ (s = r → b ≤ a) ∧ (∀ k ∈ K, v k = r → b ≤ k) := by
  induction K generalizing s a with
  | nil => exact ⟨s, a, rfl, le_rfl, by simp, Or.inl ⟨rfl, rfl⟩, fun _ => le_rfl, by simp⟩
  | cons k K ih =>
    rw [List.map_cons, List.foldl_cons, reducer_eq]
    by_cases h : v k < s ∨ (s = v k ∧ a < k)
    · rw [if_pos h]
      obtain ⟨r, b, e, h1, h2, h3, h4, h5⟩ := ih s a
      have hk : v k ≤ s := by rcases h with h | h; exacts [h.le, h.1.ge]
      refine ⟨r, b, e, h1, ?_, ?_, h4, ?_⟩
      · intro k' hk'
        rcases List.mem_cons.1 hk' with rfl | hk'
        exacts [hk.trans h1, h2 _ hk']
      · rcases h3 with h3 | ⟨k', hk', h3⟩
        exacts [Or.inl h3, Or.inr ⟨k', List.mem_cons_of_mem _ hk', h3⟩]
      · intro k' hk' er
        rcases List.mem_cons.1 hk' with rfl | hk'
        · have hs : s = r := le_antisymm h1 (er ▸ hk)
          rcases h with h | h
          · exact absurd (er.trans hs.symm) h.ne
          · exact (h4 hs).trans h.2.le
        · exact h5 _ hk' er
    · rw [if_neg h]
      obtain ⟨r, b, e, h1, h2, h3, h4, h5⟩ := ih (v k) k
      push Not at h
      refine ⟨r, b, e, h.1.trans h1, ?_, ?_, ?_, ?_⟩
      · intro k' hk'
        rcases List.mem_cons.1 hk' with rfl | hk'
        exacts [h1, h2 _ hk']
      · rcases h3 with h3 | ⟨k', hk', h3⟩
        exacts [Or.inr ⟨k, List.mem_cons_self, h3⟩, Or.inr ⟨k', List.mem_cons_of_mem _ hk', h3⟩]
      · intro er
        have : v k = r := le_antisymm h1 (er ▸ h.1)
        exact (h4 this).trans (h.2 (er.trans this.symm))
      · intro k' hk' er
        rcases List.mem_cons.1 hk' with rfl | hk'
        exacts [h4 er, h5 _ hk' er]

/-- An index reduced to `j` is `j` with a class put in. -/
theorem of_drop (i : S8x19x512x512.Idx) (j : S8x512x512.Idx) (h : reducesTo_S8x19x512x512_S8x512x512_d1.drop i = j) :
    i = ix4 (j 0) (i 1) (j 1) (j 2) := by
  subst h
  funext a
  match a with
  | 0 => rfl
  | 1 => rfl
  | 2 => rfl
  | 3 => rfl

theorem drop_ix (j : S8x512x512.Idx) (k : Fin 19) : reducesTo_S8x19x512x512_S8x512x512_d1.drop (ix4 (j 0) k (j 1) (j 2)) = j := by
  funext a
  match a with
  | 0 => rfl
  | 1 => rfl
  | 2 => rfl

variable (x0 : (⟨S8x19x512x512, .f32⟩ : BufTy).Contents (Elt Ideal))

/-- The fold over a list of indices that reduce to `j`. -/
theorem foldl_fiber {α : Type} (M : List α) (g : α → S8x19x512x512.Idx) (j : S8x512x512.Idx) (v : Fin 19 → EReal)
    (hv : ∀ k, v k = x0 (ix4 (j 0) k (j 1) (j 2))) (hb : ∃ k, v k ≠ ⊥)
    (hM : ∀ n ∈ M, reducesTo_S8x19x512x512_S8x512x512_d1.drop (g n) = j) (hc : ∀ i, reducesTo_S8x19x512x512_S8x512x512_d1.drop i = j → ∃ n ∈ M, g n = i)
    (z : EReal × BitVec 32) (hz : z = (⊥, BitVec.ofNat 32 (0 : Fin 19).val)) (y : S8x19x512x512.Idx → BitVec 32) (hy : ∀ i, y i = BitVec.ofNat 32 (i 1).val) :
    ∃ b : Fin 19, ((M.map fun n => (x0 (g n), y (g n))).foldl (reducer_argmax_f32_i32 (F := Ideal)) z).2 = BitVec.ofNat 32 b.val
      ∧ (∀ k, v k ≤ v b) ∧ (∀ k, v k = v b → b ≤ k) := by
  let cls : α → Fin 19 := fun n => g n 1
  have hL : (M.map fun n => (x0 (g n), y (g n))) = (M.map cls).map fun k => (v k, BitVec.ofNat 32 k.val) := by
    rw [List.map_map]
    refine List.map_congr_left fun n hn => ?_
    have hd := of_drop _ j (hM n hn)
    refine Prod.ext ?_ (hy (g n))
    exact (congrArg x0 hd).trans (hv (cls n)).symm
  have hK : ∀ k, k ∈ M.map cls := by
    intro k
    obtain ⟨n, hn, e⟩ := hc (ix4 (j 0) k (j 1) (j 2)) (drop_ix j k)
    refine List.mem_map.2 ⟨n, hn, ?_⟩
    show g n 1 = k
    rw [e]; rfl
  rw [hL, hz]
  obtain ⟨r, b, e, _, h2, h3, _, h5⟩ := foldl_reducer v (M.map cls) ⊥ 0
  rw [e]
  have hr : r = v b := by
    rcases h3 with ⟨h3, -⟩ | ⟨k, -, h3, rfl⟩
    · obtain ⟨k, hk⟩ := hb
      exact absurd (le_bot_iff.1 (h3 ▸ h2 k (hK k))) hk
    · exact h3
  exact ⟨b, rfl, fun k => hr ▸ h2 k (hK k), fun k hk => h5 k (hK k) (hk.trans hr.symm)⟩

/-- The reduction as a fold over a list of the indices that reduce to `j`. -/
theorem argReduce_list {s t u : Shape} {axes : List (Fin s.rank)} (f : EReal × BitVec 32 → EReal × BitVec 32 → EReal × BitVec 32)
    (x : FVec Ideal s .f32) (y : s.Idx → BitVec 32) (ix : FVec Ideal u .f32) (iy : u.Idx → BitVec 32) (h : s.ReducesTo axes t) (hu : 0 < u.numel) (j : t.Idx) :
    ∃ (α : Type) (M : List α) (g : α → s.Idx), (∀ n ∈ M, h.drop (g n) = j) ∧ (∀ i, h.drop i = j → ∃ n ∈ M, g n = i) ∧
      Host.argReduce (F := Ideal) (φ := .f32) f x y ix iy h hu j
        = (M.map fun n => (x (g n), y (g n))).foldl f (ix (Shape.Idx.first hu), iy (Shape.Idx.first hu)) := by
  refine ⟨Fin s.numel, (List.finRange s.numel).filter fun n => h.drop (s.rowMajor.symm n) = j, s.rowMajor.symm,
    fun n hn => of_decide_eq_true (List.mem_filter.1 hn).2, fun i hi => ⟨s.rowMajor i, List.mem_filter.2 ⟨List.mem_finRange _, decide_eq_true ?_⟩,
    Equiv.symm_apply_apply _ _⟩, ?_⟩
  · rw [Equiv.symm_apply_apply]; exact hi
  rw [Ideal.argReduce_eq_reduce2, Host.reduce2_eq_foldl_fiber]
  rfl

/-- The predicted class: its logit is the largest, and no earlier class has it. -/
theorem argmax_spec (j : S8x512x512.Idx) (v : Fin 19 → EReal) (hv : ∀ k, v k = x0 (ix4 (j 0) k (j 1) (j 2))) (hb : ∃ k, v k ≠ ⊥) :
    ∃ b : Fin 19, val_main_v0 (F := Ideal) x0 j = BitVec.ofNat 32 b.val ∧ (∀ k, v k ≤ v b) ∧ (∀ k, v k = v b → b ≤ k) := by
  obtain ⟨α, M, g, hM, hc, e⟩ := argReduce_list (reducer_argmax_f32_i32 (F := Ideal)) x0 (val_main_call0_v0 (F := Ideal)) (val_main_call0_cst (F := Ideal))
    (val_main_call0_c (F := Ideal)) reducesTo_S8x19x512x512_S8x512x512_d1 h_S_ j
  have hz : (val_main_call0_cst (F := Ideal) (Shape.Idx.first h_S_), val_main_call0_c (F := Ideal) (Shape.Idx.first h_S_))
      = ((⊥ : EReal), BitVec.ofNat 32 (0 : Fin 19).val) := Prod.ext Math.cNegInf rfl
  obtain ⟨b, eb, h⟩ := foldl_fiber x0 M g j v hv hb hM hc _ hz _ (val_main_call0_v0_apply (F := Ideal))
  have hf : val_main_v0 (F := Ideal) x0 = fun j => (Host.argReduce (F := Ideal) (φ := .f32) (reducer_argmax_f32_i32 (F := Ideal)) x0
    (val_main_call0_v0 (F := Ideal)) (val_main_call0_cst (F := Ideal)) (val_main_call0_c (F := Ideal)) reducesTo_S8x19x512x512_S8x512x512_d1 h_S_ j).2 := rfl
  refine ⟨b, ?_, h⟩
  refine (congrFun hf j).trans ?_
  beta_reduce
  rw [e]
  exact eb

end Cert.ReferenceIdeal.Read

end
-- ==== Proof.Ref.Scatter.lean ====
module

public import proofs.«01_k».proof.Proof.Ref.Words
public import proofs.«01_k».proof.Proof.Math.Spec
public import Idealize.ShloMosaic.Lib.Routing.OpsSet

@[expose] public section

noncomputable section

/-! The reference's two histograms and its gathers, read at a class. -/

namespace Cert.ReferenceIdeal.Read

open Cert.ReferenceIdeal Cert.ReferenceIdeal.Gen Idealize.ShloMosaic

/-- Where an update of the histograms lands: at its index word. -/
theorem lands (k : S2097152.Idx) (idx : IVec S2097152x1 32) (c : Fin 256) :
    scatter_S256_S2097152x1_S2097152_n_0_0_1.resultIdx? k idx = some (ix1 c) ↔ (idx (ix2 (k 0) (0 : Fin 1))).toInt = (c.val : ℤ) := by
  rw [Routing.resultIdx?_eq_some]
  have e : scatter_S256_S2097152x1_S2097152_n_0_0_1.start k idx 0 + (scatter_S256_S2097152x1_S2097152_n_0_0_1.window k 0 : ℤ)
      = (idx (ix2 (k 0) (0 : Fin 1))).toInt := by
    have hw : scatter_S256_S2097152x1_S2097152_n_0_0_1.window k 0 = 0 := rfl
    have hs : scatter_S256_S2097152x1_S2097152_n_0_0_1.start k idx 0 = (idx (ix2 (k 0) (0 : Fin 1))).toInt := by
      unfold ScatterDims.start
      rw [dif_pos (show (0 : Fin 1) ∈ scatter_S256_S2097152x1_S2097152_n_0_0_1.scatterDimsToOperandDims from List.mem_singleton.2 rfl)]
      refine congrArg (fun z => (idx z).toInt) (funext fun b => ?_)
      match b with
      | 0 => rfl
      | 1 => rfl
    rw [hw, hs]; simp
  constructor
  · intro h; rw [← e]; exact h 0
  · intro h a
    match a with
    | 0 => exact e.trans h

/-- Counting by a fold of words. -/
theorem foldl_addi_one {ι : Type} (P : ι → Prop) [DecidablePred P] (l : List ι) (x : ℕ) :
    l.foldl (fun a n => if P n then IntOp.addi a 1#32 else a) (BitVec.ofNat 32 x)
      = BitVec.ofNat 32 (x + (l.map fun n => if P n then 1 else 0).sum) := by
  induction l generalizing x with
  | nil => rfl
  | cons a l ih =>
    rw [List.foldl_cons, List.map_cons, List.sum_cons]
    by_cases h : P a
    · rw [if_pos h, if_pos h, ← Nat.add_assoc, ← ih]
      exact congrArg (List.foldl _ · l) (BitVec.ofNat_add x 1).symm
    · rw [if_neg h, if_neg h, Nat.zero_add, ih]

/-- A histogram of words: the number of updates that land. -/
theorem scatter_count {s si u : Shape} {w : ℕ} (d : ScatterDims s si u) (x0 : IVec s 32) (idx : IVec si w) (upd : IVec u 32) (ι : s.Idx)
    (h0 : x0 ι = 0#32) (h1 : ∀ k, upd k = 1#32) :
    Host.scatter d IntOp.addi x0 idx upd ι = BitVec.ofNat 32 (∑ k : u.Idx, if d.resultIdx? k idx = some ι then 1 else 0) := by
  rw [Routing.scatter_at, h0]
  have e : (∑ k : u.Idx, if d.resultIdx? k idx = some ι then 1 else 0)
      = 0 + ((List.finRange u.numel).map fun n => if d.resultIdx? (u.rowMajor.symm n) idx = some ι then 1 else 0).sum := by
    rw [Nat.zero_add, ← Equiv.sum_comp u.rowMajor.symm, Fin.sum_univ_def]
  rw [e, ← foldl_addi_one]
  simp only [h1]

/-- A class weight gathered at an index word that is a class or the ignored word. -/
theorem gather_weight {α : Type} (x : S256.Idx → α) (idx : IVec S8x512x512x1 32) (j : S8x512x512.Idx) (t : BitVec 32) (ht : Valid t)
    (h : idx (ix4 (j 0) (j 1) (j 2) (0 : Fin 1)) = t) :
    Host.gather gather_S256_S8x512x512x1_S8x512x512_n_0_n_n_0_3_1 x idx j = x (ix1 ⟨t.toNat, toNat_lt ht⟩) := by
  unfold Host.gather
  refine congrArg x (funext fun a => ?_)
  match a with
  | 0 =>
    refine Fin.ext ?_
    have hs : gather_S256_S8x512x512x1_S8x512x512_n_0_n_n_0_3_1.start j idx 0 = min (idx (ix4 (j 0) (j 1) (j 2) (0 : Fin 1))).toInt.toNat 255 := by
      unfold GatherDims.start
      rw [dif_pos (show (0 : Fin 1) ∈ gather_S256_S8x512x512x1_S8x512x512_n_0_n_n_0_3_1.startIndexMap from List.mem_singleton.2 rfl)]
      refine congrArg (fun z => min (idx z).toInt.toNat 255) (funext fun b => ?_)
      match b with
      | 0 => rfl
      | 1 => rfl
      | 2 => rfl
      | 3 => rfl
    show gather_S256_S8x512x512x1_S8x512x512_n_0_n_n_0_3_1.start j idx 0 + 0 + 0 = t.toNat
    rw [hs, h, toInt_eq ht]
    have := toNat_lt ht
    simp only [Int.toNat_natCast]
    omega

/-- A logit gathered along the classes at a class. -/
theorem gather_class {α : Type} (x : S8x19x512x512.Idx → α) (idx : IVec S8x1x512x512x1 32) (j : S8x1x512x512.Idx) (c : Fin 19)
    (h : idx (ix5 (j 0) (j 1) (j 2) (j 3) (0 : Fin 1)) = BitVec.ofNat 32 c) :
    Host.gather gather_S8x19x512x512_S8x1x512x512x1_S8x1x512x512_n_1_023_023_1_4_1111 x idx j = x (ix4 (j 0) c (j 2) (j 3)) := by
  unfold Host.gather
  refine congrArg x (funext fun a => ?_)
  match a with
  | 0 => exact Fin.ext (by show 0 + (j 0 : ℕ) + 0 = _; simp)
  | 2 => exact Fin.ext (by show 0 + (j 2 : ℕ) + 0 = _; simp)
  | 3 => exact Fin.ext (by show 0 + (j 3 : ℕ) + 0 = _; simp)
  | 1 =>
    refine Fin.ext ?_
    have hs : gather_S8x19x512x512_S8x1x512x512x1_S8x1x512x512_n_1_023_023_1_4_1111.start j idx 1
        = min (idx (ix5 (j 0) (j 1) (j 2) (j 3) (0 : Fin 1))).toInt.toNat 18 := by
      unfold GatherDims.start
      rw [dif_pos (show (1 : Fin 4) ∈ gather_S8x19x512x512_S8x1x512x512x1_S8x1x512x512_n_1_023_023_1_4_1111.startIndexMap from List.mem_singleton.2 rfl)]
      refine congrArg (fun z => min (idx z).toInt.toNat 18) (funext fun b => ?_)
      match b with
      | 0 => rfl
      | 1 => rfl
      | 2 => rfl
      | 3 => rfl
      | 4 => rfl
    show gather_S8x19x512x512_S8x1x512x512x1_S8x1x512x512_n_1_023_023_1_4_1111.start j idx 1 + 0 + 0 = c.val
    rw [hs, h]
    have key : ∀ c : Fin 19, (BitVec.ofNat 32 c.val).toInt.toNat = c.val := by decide
    rw [key]
    omega

/-- The ignored word's weight is overwritten by zero, the others stay. -/
theorem set_weight {α : Type} (x : S256.Idx → α) (idx : IVec S1 32) (hi : ∀ i, idx i = 255#32) (upd : S_.Idx → α) (c : Fin 256) (z : α) (hz : ∀ k, upd k = z) :
    Host.scatter scatter_S256_S1_S__n_0_0_0 (fun _ b => b) x idx upd (ix1 c) = if c.val = 255 then z else x (ix1 c) := by
  have hl : ∀ k : S_.Idx, scatter_S256_S1_S__n_0_0_0.resultIdx? k idx = some (ix1 c) ↔ c.val = 255 := fun k => by
    rw [Routing.resultIdx?_eq_some]
    have e : scatter_S256_S1_S__n_0_0_0.start k idx 0 + (scatter_S256_S1_S__n_0_0_0.window k 0 : ℤ) = 255 := by
      have hw : scatter_S256_S1_S__n_0_0_0.window k 0 = 0 := rfl
      have hs : scatter_S256_S1_S__n_0_0_0.start k idx 0 = 255 := by
        unfold ScatterDims.start
        rw [dif_pos (show (0 : Fin 1) ∈ scatter_S256_S1_S__n_0_0_0.scatterDimsToOperandDims from List.mem_singleton.2 rfl), hi]
        decide
      rw [hw, hs]; simp
    constructor
    · intro h
      have h0 := (e.symm.trans (h 0)).symm
      exact_mod_cast h0
    · intro h a
      match a with
      | 0 => exact e.trans (by exact_mod_cast h.symm)
  by_cases h : c.val = 255
  · rw [if_pos h]
    exact Routing.scatter_set_hit _ _ _ _ _ z (fun k _ => hz k) ix0 ((hl ix0).2 h)
  · rw [if_neg h]
    exact Routing.scatter_set_miss _ _ _ _ _ fun k hk => h ((hl k).1 hk)

end Cert.ReferenceIdeal.Read

end
-- ==== Proof.Ref.Pixel.lean ====
module

public import proofs.«01_k».proof.Proof.Ref.Argmax
public import proofs.«01_k».proof.Proof.Ref.Scatter

@[expose] public section

noncomputable section

/-! What the reference computes of one pixel: whether it is missed, and its cross entropy. -/

namespace Cert.Math

open Idealize.ShloMosaic Cert.KernelIdeal.Block

theorem le_topS (v : ℕ → EReal) (n k : ℕ) (h : k ≤ n) : v k ≤ topS v n := by
  induction n with
  | zero => rw [Nat.le_zero.1 h]; exact le_rfl
  | succ n ih =>
    show v k ≤ max (topS v n) (v (n + 1))
    rcases Nat.of_le_succ h with h | rfl
    exacts [(ih h).trans (le_max_left _ _), le_max_right _ _]

theorem topS_mem (v : ℕ → EReal) (n : ℕ) : ∃ k ≤ n, topS v n = v k := by
  induction n with
  | zero => exact ⟨0, le_rfl, rfl⟩
  | succ n ih =>
    obtain ⟨k, hk, e⟩ := ih
    show ∃ k ≤ n + 1, max (topS v n) (v (n + 1)) = v k
    rcases max_choice (topS v n) (v (n + 1)) with h | h
    exacts [⟨k, Nat.le_succ_of_le hk, h.trans e⟩, ⟨n + 1, le_rfl, h⟩]

theorem totS_range (v : ℕ → EReal) (n : ℕ) : totS v n = ∑ k ∈ Finset.range (n + 1), Ideal.exp (v k - topS v 18) := by
  induction n with
  | zero => rw [Finset.sum_range_one]; rfl
  | succ n ih => rw [Finset.sum_range_succ, ← ih]; rfl

theorem exp_nonneg (x : EReal) : 0 ≤ Ideal.exp x := by
  induction x with
  | bot => exact le_rfl
  | top => exact le_top
  | coe r => exact EReal.coe_nonneg.2 (Real.exp_pos r).le

theorem one_le_totS (v : ℕ → EReal) (h0 : ⊥ < topS v 18) (h1 : topS v 18 < ⊤) : 1 ≤ totS v 18 := by
  obtain ⟨k, hk, e⟩ := topS_mem v 18
  rw [totS_range]
  have hle := Finset.single_le_sum (f := fun k => Ideal.exp (v k - topS v 18)) (s := Finset.range (18 + 1)) (fun i _ => exp_nonneg _)
    (Finset.mem_range.2 (Nat.lt_succ_of_le hk))
  refine le_trans ?_ hle
  show 1 ≤ Ideal.exp (v k - topS v 18)
  rw [← e]
  lift topS v 18 to ℝ using ⟨h1.ne, h0.ne'⟩ with r
  rw [← EReal.coe_sub, sub_self]
  show (1 : EReal) ≤ ((Real.exp 0 : ℝ) : EReal)
  rw [Real.exp_zero]; exact le_rfl

theorem log_ne_bot (x : EReal) (h : 1 ≤ x) : Ideal.log x ≠ ⊥ := by
  induction x with
  | bot => exact absurd h (by rw [← EReal.coe_one]; exact not_le.2 (EReal.bot_lt_coe 1))
  | top => exact bot_ne_top.symm
  | coe r =>
    have hr : (1 : ℝ) ≤ r := by exact_mod_cast h
    show (if r ≤ 0 then ⊥ else ((Real.log r : ℝ) : EReal)) ≠ ⊥
    rw [if_neg (by linarith)]
    exact EReal.coe_ne_bot _

theorem neg_sub_sub (x L : EReal) (M : ℝ) (hx : x ≠ ⊤) (hL : L ≠ ⊥) : -((x - (M : EReal)) - L) = (M : EReal) + L - x := by
  induction x with
  | top => exact absurd rfl hx
  | bot =>
    induction L with
    | bot => exact absurd rfl hL
    | top => simp
    | coe l =>
      rw [← EReal.coe_add]; simp
  | coe x =>
    induction L with
    | bot => exact absurd rfl hL
    | top => rw [← EReal.coe_sub]; simp
    | coe l =>
      rw [← EReal.coe_sub, ← EReal.coe_sub, ← EReal.coe_add, ← EReal.coe_sub, ← EReal.coe_neg]
      congr 1; ring

end Cert.Math

namespace Cert.ReferenceIdeal.Read

open Cert.ReferenceIdeal Cert.ReferenceIdeal.Gen Idealize.ShloMosaic Cert.KernelIdeal.Block Cert.Math

/-- A pixel's index with a class put in. -/
def at4 (j : S8x512x512.Idx) (k : Fin 19) : S8x19x512x512.Idx := ix4 (j 0) k (j 1) (j 2)
/-- A pixel's index with a unit axis put in. -/
def one4 (j : S8x512x512.Idx) : S8x1x512x512.Idx := ix4 (j 0) 0 (j 1) (j 2)
/-- A pixel's index with a unit axis put in and another put behind. -/
def one5 (j : S8x512x512.Idx) : S8x1x512x512x1.Idx := ix5 (j 0) 0 (j 1) (j 2) 0

/-- The logits of a pixel, by class. -/
def col (x : S8x19x512x512.Idx → EReal) (j : S8x512x512.Idx) (k : ℕ) : EReal := x (at4 j (Fin.ofNat 19 k))

theorem col_fin (x : S8x19x512x512.Idx → EReal) (j : S8x512x512.Idx) (k : Fin 19) : col x j k = x (at4 j k) := by
  unfold col
  rw [show Fin.ofNat 19 k.val = k from Fin.ext (Nat.mod_eq_of_lt k.isLt)]

/-- The maximum along the classes. -/
theorem reduce_max (x : S8x19x512x512.Idx → EReal) (z : S_.Idx → EReal) (hz : ∀ i, z i = ⊥) (h : S8x19x512x512.ReducesTo [1] S8x512x512) (hu : 0 < S_.numel)
    (j : S8x512x512.Idx) : Host.reduce (FloatOps.maximumf (F := Ideal) (φ := .f32)) x z h hu j = topS (col x j) 18 := by
  have hr : S8x19x512x512.Reduces [1] S8x512x512 := by decide
  have hc : ∀ k : Fin 19, x (hr.lift j k) = col x j k := fun k => by
    rw [col_fin]
    exact congrArg x (funext fun a => Fin.ext (by match a with | ⟨0, _⟩ => rfl | ⟨1, _⟩ => rfl | ⟨2, _⟩ => rfl | ⟨3, _⟩ => rfl))
  rw [Host.reduce_eq_fold_single _ _ _ h hr, hz]
  refine le_antisymm ?_ ?_
  · exact (Finset.fold_max_le _).2 ⟨bot_le, fun k _ => (hc k).le.trans (le_topS (col x j) 18 (k : Fin 19).val (Nat.le_of_lt_succ (k : Fin 19).isLt))⟩
  · obtain ⟨k, hk, e⟩ := topS_mem (col x j) 18
    rw [e]
    exact (Finset.le_fold_max _).2 (Or.inr ⟨(⟨k, Nat.lt_succ_of_le hk⟩ : Fin 19), Finset.mem_univ _, (hc ⟨k, Nat.lt_succ_of_le hk⟩).ge⟩)

/-- What the precondition says of a pixel of logits `v` and label `t`. -/
structure Good (v : ℕ → EReal) (t : BitVec 32) : Prop where
  valid : Valid t
  pos : ∀ c : Fin 19, t = BitVec.ofNat 32 c → ⊥ < topS v 18
  fin : ∀ c : Fin 19, t = BitVec.ofNat 32 c → topS v 18 < ⊤
  first : ∀ c k : Fin 19, t = BitVec.ofNat 32 c → v c = topS v 18 → k < c → v k < topS v 18

section
variable (x0 : (⟨S8x19x512x512, .f32⟩ : BufTy).Contents (Elt Ideal)) (x1 : (⟨S8x512x512, .i32⟩ : BufTy).Contents (Elt Ideal))

/-- Whether a pixel is missed. -/
theorem miss_eq (j : S8x512x512.Idx) (hg : Good (col x0 j) (x1 j)) (c : Fin 19) (ht : x1 j = BitVec.ofNat 32 c) :
    FloatOps.uitofp (F := Ideal) .f32 (IntOp.cmpi .ne (val_main_v0 (F := Ideal) x0 j) (x1 j)) = (isMiss (col x0 j) (x1 j) c : EReal) := by
  obtain ⟨k, hk, e⟩ := topS_mem (col x0 j) 18
  obtain ⟨b, eb, hmax, hfirst⟩ := argmax_spec x0 j (fun k => col x0 j k.val) (col_fin x0 j)
    ⟨⟨k, Nat.lt_succ_of_le hk⟩, fun h => (hg.pos c ht).ne' (e.trans h)⟩
  have hb : col x0 j b = topS (col x0 j) 18 :=
    le_antisymm (le_topS _ _ _ (Nat.le_of_lt_succ b.isLt)) (e ▸ hmax ⟨k, Nat.lt_succ_of_le hk⟩)
  have key : ∀ b c : Fin 19, IntOp.cmpi .ne (BitVec.ofNat 32 b.val) (BitVec.ofNat 32 c.val) = if b = c then 0#1 else 1#1 := by decide +kernel
  rw [eb, ht, key]
  unfold isMiss
  rw [if_pos rfl]
  by_cases h : col x0 j c < topS (col x0 j) 18
  · have hn : b ≠ c := by rintro rfl; exact h.ne hb
    rw [if_neg hn, if_pos h]
    show ((((1#1 : BitVec 1).toNat : ℝ)) : EReal) = ((1 : ℕ) : EReal)
    simp
  · have hc : col x0 j c = topS (col x0 j) 18 := le_antisymm (le_topS _ _ _ (Nat.le_of_lt_succ c.isLt)) (not_lt.1 h)
    have hbc : b = c := by
      refine le_antisymm (hfirst c (hc.trans hb.symm)) (not_lt.1 fun hlt => ?_)
      exact (hg.first c b ht hc hlt).ne hb
    rw [if_pos hbc, if_neg h]
    show ((((0#1 : BitVec 1).toNat : ℝ)) : EReal) = ((0 : ℕ) : EReal)
    simp

/-- A pixel's maximal logit. -/
theorem top_eq (j : S8x512x512.Idx) : val_main_call5_v2 (F := Ideal) x0 j = topS (col x0 j) 18 := by
  rw [val_main_call5_v2_apply, val_main_call5_v1_apply]
  unfold val_main_call5_v0
  rw [reduce_max x0 (val_main_call5_cst (F := Ideal)) (fun _ => cNegInf)]
  show max (Ideal.ofBits .f32 0xFF800000#32) _ = _
  rw [cNegInf]
  exact max_eq_right bot_le

/-- A logit less the maximal one. -/
theorem shifted_eq (j : S8x512x512.Idx) (k : Fin 19) :
    val_main_call5_v5 (F := Ideal) x0 (at4 j k) = col x0 j k - topS (col x0 j) 18 := by
  rw [val_main_call5_v5_apply, val_main_call5_v4_apply, val_main_call5_v3_apply]
  have hi : idx_main_call5_v3 (idx_main_call5_v4 (at4 j k)) = j := by
    funext a
    match a with
    | 0 => rfl
    | 1 => rfl
    | 2 => rfl
  rw [hi, top_eq, col_fin]
  rfl

/-- The sum of the exponentials. -/
theorem tot_eq (j : S8x512x512.Idx) : val_main_call5_v7 (F := Ideal) x0 j = totS (col x0 j) 18 := by
  rw [val_main_call5_v7_apply, totS_range, ← Fin.sum_univ_eq_sum_range (fun k => Ideal.exp (col x0 j k - topS (col x0 j) 18)) 19]
  have hz : (val_main_call5_cst_1 (F := Ideal)) (Shape.Idx.first h_S_) = (0 : EReal) := Ideal.ofBits_zero_f32
  rw [hz, zero_add]
  refine Finset.sum_congr rfl fun k _ => ?_
  have hi : idx_main_call5_v7 j k = at4 j k := by
    funext a
    match a with
    | 0 => rfl
    | 1 => rfl
    | 2 => rfl
    | 3 => rfl
  rw [hi, val_main_call5_v6_apply, shifted_eq]
  rfl

/-- A logit of the log softmax. -/
theorem logsm_eq (j : S8x512x512.Idx) (k : Fin 19) :
    val_main_v34 (F := Ideal) x0 (at4 j k) = (col x0 j k - topS (col x0 j) 18) - Ideal.log (totS (col x0 j) 18) := by
  rw [val_main_v34_apply, shifted_eq, val_main_call5_v10_apply, val_main_call5_v9_apply, val_main_call5_v8_apply]
  have hi : idx_main_call5_v8 (idx_main_call5_v10 (at4 j k)) = j := by
    funext a
    match a with
    | 0 => rfl
    | 1 => rfl
    | 2 => rfl
  rw [hi, tot_eq]
  rfl

/-- The cross entropy of a pixel. -/
theorem ce_eq (j : S8x512x512.Idx) (hv : ∀ j, Valid (x1 j)) (hg : Good (col x0 j) (x1 j)) (c : Fin 19) (ht : x1 j = BitVec.ofNat 32 c) :
    val_main_v39 (F := Ideal) x0 x1 j = cepS (col x0 j) (x1 j) c := by
  have hj : idx_main_v38 j = one4 j := by
    have h0 := (j 0).isLt
    have h1 := (j 1).isLt
    have h2 := (j 2).isLt
    change (j 0).val < 8 at h0
    change (j 1).val < 512 at h1
    change (j 2).val < 512 at h2
    funext a
    refine Fin.ext ?_
    match a with
    | 0 => show (((j 0).val * 512 + (j 1).val) * 512 + (j 2).val) / 262144 = (j 0).val; omega
    | 1 => rfl
    | 2 => show (((j 0).val * 512 + (j 1).val) * 512 + (j 2).val) / 512 % 512 = (j 1).val; omega
    | 3 => show (((j 0).val * 512 + (j 1).val) * 512 + (j 2).val) % 512 = (j 2).val; omega
  have hi : val_main_call7_v5 (F := Ideal) x1 (one5 j) = BitVec.ofNat 32 c := by
    rw [call7_v5_eq x1 hv]
    have hk : idx_main_v36 (idx_main_call7_v5 (one5 j)) = j := by
      have h0 := (j 0).isLt
      have h1 := (j 1).isLt
      have h2 := (j 2).isLt
      change (j 0).val < 8 at h0
      change (j 1).val < 512 at h1
      change (j 2).val < 512 at h2
      funext a
      refine Fin.ext ?_
      match a with
      | 0 => show (((((j 0).val * 1 + 0) * 512 + (j 1).val) * 512 + (j 2).val) * 1 + 0) / 262144 = (j 0).val; omega
      | 1 => show (((((j 0).val * 1 + 0) * 512 + (j 1).val) * 512 + (j 2).val) * 1 + 0) / 512 % 512 = (j 1).val; omega
      | 2 => show (((((j 0).val * 1 + 0) * 512 + (j 1).val) * 512 + (j 2).val) * 1 + 0) % 512 = (j 2).val; omega
    rw [hk, ht, clip_class]
  rw [val_main_v39_apply, val_main_v38_apply, hj, val_main_v37_apply, call7_v12_eq x1 hv]
  unfold val_main_call7_v13
  rw [gather_class (val_main_v34 (F := Ideal) x0) (val_main_call7_v5 (F := Ideal) x1) (one4 j) c hi]
  show -(val_main_v34 (F := Ideal) x0 (at4 j c)) = _
  rw [logsm_eq]
  unfold cepS
  rw [if_pos ht]
  have hL := log_ne_bot _ (one_le_totS _ (hg.pos c ht) (hg.fin c ht))
  have hx : col x0 j c ≠ ⊤ := ((le_topS _ _ _ (Nat.le_of_lt_succ c.isLt)).trans_lt (hg.fin c ht)).ne
  generalize Ideal.log (totS (col x0 j) 18) = L at hL ⊢
  have h0 := hg.pos c ht
  have h1 := hg.fin c ht
  generalize topS (col x0 j) 18 = M at h0 h1 ⊢
  lift M to ℝ using ⟨h1.ne, h0.ne'⟩ with r
  exact neg_sub_sub _ _ _ hx hL

end

end Cert.ReferenceIdeal.Read

end
-- ==== Proof.Ref.Value.lean ====
module

public import proofs.«01_k».proof.Proof.Ref.Pixel
public import proofs.«01_k».proof.Proof.Block.Value

@[expose] public section

noncomputable section

/-! The reference's result: the formula over the pixels. -/

namespace Cert.ReferenceIdeal.Read

open Cert.ReferenceIdeal Cert.ReferenceIdeal.Gen Idealize.ShloMosaic Cert.KernelIdeal.Block Cert.Math

/-- The pixel of flat index `n`. -/
def pix (n : ℕ) : S8x512x512.Idx := ix3 (Fin.ofNat 8 (n / 262144)) (Fin.ofNat 512 (n / 512 % 512)) (Fin.ofNat 512 (n % 512))

theorem flat_v3 (i : S2097152.Idx) : idx_main_v3 i = pix (i 0).val := by
  have h : (i 0).val < 2097152 := (i 0).isLt
  funext a
  refine Fin.ext ?_
  match a with
  | 0 => show (i 0).val / 262144 = (i 0).val / 262144 % 8; omega
  | 1 => show (i 0).val / 512 % 512 = (i 0).val / 512 % 512 % 512; omega
  | 2 => show (i 0).val % 512 = (i 0).val % 512 % 512; omega

theorem flat_v2 (i : S2097152.Idx) : idx_main_v2 i = pix (i 0).val := flat_v3 i

/-- A class by its index. -/
def cls (c : Fin 19) : Fin 256 := ⟨c.val, by have := c.isLt; omega⟩

theorem toInt_class {t : BitVec 32} (h : Valid t) (c : Fin 19) : t.toInt = ((cls c).val : ℤ) ↔ t = BitVec.ofNat 32 c := by
  revert c
  exact h.all (P := fun t => ∀ c : Fin 19, t.toInt = ((cls c).val : ℤ) ↔ t = BitVec.ofNat 32 c) (by decide) (by decide)

/-- A count of at most the pixels, as a number. -/
theorem sitofp_nat (n : ℕ) (h : n ≤ 2097152) : FloatOps.sitofp (F := Ideal) .f32 (BitVec.ofNat 32 n) = (n : EReal) := by
  show (((BitVec.ofNat 32 n).toInt : ℝ) : EReal) = _
  have e : (BitVec.ofNat 32 n).toInt = (n : ℤ) := by
    have hn : (BitVec.ofNat 32 n).toNat = n := by rw [BitVec.toNat_ofNat]; exact Nat.mod_eq_of_lt (by omega)
    rw [BitVec.toInt_eq_toNat_of_lt (by rw [hn]; omega), hn]
  rw [e]
  push_cast
  rfl

theorem labelled_le (T : ℕ → BitVec 32) (c : ℕ) : labelled T c ≤ 2097152 := by
  refine (Finset.sum_le_sum fun n _ => isC_le (T n) c).trans ?_
  simp

/-- A histogram of numbers: what stood there plus the updates that land. -/
theorem scatter_sum {s si u : Shape} {w : ℕ} (d : ScatterDims s si u) (x : FVec Ideal s .f32) (idx : IVec si w) (upd : FVec Ideal u .f32) (i : s.Idx) :
    Host.scatterAdd d x idx upd i = x i + ∑ j : u.Idx, if d.resultIdx? j idx = some i then upd j else 0 := by
  rw [← Finset.sum_filter]
  rfl

section
variable (x0 : (⟨S8x19x512x512, .f32⟩ : BufTy).Contents (Elt Ideal)) (x1 : (⟨S8x512x512, .i32⟩ : BufTy).Contents (Elt Ideal))

theorem logits_pix (n : ℕ) : logits x0 n = col x0 (pix n) := rfl
theorem label_pix (n : ℕ) : label x1 n = x1 (pix n) := rfl

/-- The histogram of the labels. -/
theorem v13_eq (hv : ∀ j, Valid (x1 j)) (c : Fin 19) : val_main_v13 (F := Ideal) x1 (ix1 (cls c)) = BitVec.ofNat 32 (labelled (label x1) c) := by
  unfold val_main_v13
  rw [scatter_count _ (val_main_v4 (F := Ideal)) (val_main_v11 (F := Ideal) x1) (val_main_v12 (F := Ideal)) (ix1 (cls c))
    (by rw [val_main_v4_apply]; rfl) (fun k => by rw [val_main_v12_apply]; rfl)]
  refine congrArg (BitVec.ofNat 32) ?_
  rw [sum_idx1]
  unfold labelled
  rw [← Fin.sum_univ_eq_sum_range (fun n => isC (label x1 n) c.val) 2097152]
  refine Finset.sum_congr rfl fun k _ => ?_
  unfold isC
  refine if_congr ?_ rfl rfl
  rw [lands, v11_eq x1 hv, toInt_class (hv _), flat_v3]
  exact Iff.rfl

/-- The histogram of the missed labels. -/
theorem v27_eq (hg : ∀ j, Good (col x0 j) (x1 j)) (c : Fin 19) :
    val_main_v27 (F := Ideal) x0 x1 (ix1 (cls c)) = (miss (logits x0) (label x1) c : EReal) := by
  have hv : ∀ j, Valid (x1 j) := fun j => (hg j).valid
  unfold val_main_v27
  rw [scatter_sum]
  have hz : val_main_v19 (F := Ideal) (ix1 (cls c)) = (0 : EReal) := by rw [val_main_v19_apply]; exact Ideal.ofBits_zero_f32
  rw [hz, zero_add, sum_idx1]
  unfold miss
  rw [Nat.cast_sum, ← Fin.sum_univ_eq_sum_range (fun n => ((isMiss (logits x0 n) (label x1 n) c.val : ℕ) : EReal)) 2097152]
  refine Finset.sum_congr rfl fun k _ => ?_
  have hl : scatter_S256_S2097152x1_S2097152_n_0_0_1.resultIdx? (ix1 k) (val_main_v26 (F := Ideal) x1) = some (ix1 (cls c))
      ↔ x1 (pix k.val) = BitVec.ofNat 32 c := by
    rw [lands, v26_eq x1 hv, toInt_class (hv _), flat_v3]
    exact Iff.rfl
  by_cases h : x1 (pix k.val) = BitVec.ofNat 32 c
  · rw [if_pos (hl.2 h), val_main_v18_apply, val_main_v2_apply, val_main_v1_apply, flat_v2]
    exact miss_eq x0 x1 (pix k.val) (hg _) c h
  · rw [if_neg (fun h' => h (hl.1 h'))]
    unfold isMiss
    rw [label_pix, if_neg h]
    exact Nat.cast_zero.symm

/-- A class weight. -/
theorem v31_eq (hg : ∀ j, Good (col x0 j) (x1 j)) (c : Fin 19) :
    val_main_v31 (F := Ideal) x0 x1 (ix1 (cls c)) = weight (logits x0) (label x1) c := by
  have hv : ∀ j, Valid (x1 j) := fun j => (hg j).valid
  have h30 : val_main_v30 (F := Ideal) x0 x1 (ix1 (cls c)) = (orOneN (miss (logits x0) (label x1) c) : EReal) := by
    rw [val_main_v30_apply, val_main_v29_apply, v27_eq x0 x1 hg, val_main_v28_apply, val_main_call4_v1_apply]
    exact orOne_nat _
  have h17 : val_main_v17 (F := Ideal) x1 (ix1 (cls c)) = (orOneN (labelled (label x1) c) : EReal) := by
    rw [val_main_v17_apply, val_main_v16_apply, val_main_v14_apply, v13_eq x1 hv, sitofp_nat _ (labelled_le _ _), val_main_v15_apply,
      val_main_call2_v1_apply]
    exact orOne_nat _
  rw [val_main_v31_apply, h30, h17]
  rfl

/-- A pixel's weighted cross entropy. -/
theorem v50_eq (hg : ∀ j, Good (col x0 j) (x1 j)) (j : S8x512x512.Idx) :
    val_main_v50 (F := Ideal) x0 x1 j = ∑ c ∈ Finset.range 19, weight (logits x0) (label x1) c * cepS (col x0 j) (x1 j) c := by
  have hv : ∀ j, Valid (x1 j) := fun j => (hg j).valid
  have h49 : val_main_v49 (F := Ideal) x0 x1 j = val_main_v33 (F := Ideal) x0 x1 (ix1 ⟨(x1 j).toNat, toNat_lt (hv j)⟩) := by
    unfold val_main_v49
    refine gather_weight (val_main_v33 (F := Ideal) x0 x1) (val_main_v48 (F := Ideal) x1) j (x1 j) (hv j) ?_
    refine (v48_eq x1 hv _).trans (congrArg x1 ?_)
    funext a
    match a with
    | 0 => rfl
    | 1 => rfl
    | 2 => rfl
  have h33 : ∀ c : Fin 256, val_main_v33 (F := Ideal) x0 x1 (ix1 c) = if c.val = 255 then (0 : EReal) else val_main_v31 (F := Ideal) x0 x1 (ix1 c) := fun c => by
    unfold val_main_v33
    exact set_weight (val_main_v31 (F := Ideal) x0 x1) (val_main_v32 (F := Ideal)) (fun i => by rw [val_main_v32_apply]; rfl) (val_main_cst_12 (F := Ideal)) c 0
      (fun k => Ideal.ofBits_zero_f32)
  rw [val_main_v50_apply, h49, h33, val_main_v42_apply, val_main_v41_apply, val_main_v40_apply]
  rcases hv j with ⟨c, ht⟩ | ht
  · have hc : (⟨(x1 j).toNat, toNat_lt (hv j)⟩ : Fin 256) = cls c := by
      have key : ∀ c : Fin 19, (BitVec.ofNat 32 c.val).toNat = c.val := by decide
      exact Fin.ext (by show (x1 j).toNat = c.val; rw [ht, key])
    have hn : IntOp.cmpi .ne (x1 j) (val_main_c_15 (F := Ideal) (idx_main_v40 j)) = 1#1 := by
      rw [ht, val_main_c_15_apply]
      have key : ∀ c : Fin 19, IntOp.cmpi .ne (BitVec.ofNat 32 c.val) 255#32 = 1#1 := by decide
      exact key c
    have hlt := c.isLt
    rw [hc, if_neg (by show c.val ≠ 255; omega), v31_eq x0 x1 hg, hn, ce_eq x0 x1 j hv (hg j) c ht]
    rw [Finset.sum_eq_single c.val]
    · rfl
    · intro b hb hne
      have hb' := Finset.mem_range.1 hb
      have key : ∀ b c : Fin 19, BitVec.ofNat 32 c.val = BitVec.ofNat 32 b.val → b = c := by decide +kernel
      unfold cepS
      rw [if_neg (fun h => hne (congrArg Fin.val (key ⟨b, hb'⟩ c (ht.symm.trans h)))), mul_zero]
    · intro h
      exact absurd (Finset.mem_range.2 hlt) h
  · have hn : IntOp.cmpi .ne (x1 j) (val_main_c_15 (F := Ideal) (idx_main_v40 j)) = 0#1 := by
      rw [ht, val_main_c_15_apply]; decide
    rw [if_pos (by show (x1 j).toNat = 255; rw [ht]; rfl), hn]
    have h0 : val_main_call8_v1 (F := Ideal) j = (0 : EReal) := by rw [val_main_call8_v1_apply]; exact Ideal.ofBits_zero_f32
    rw [Finset.sum_eq_zero]
    · show (0 : EReal) * val_main_call8_v1 (F := Ideal) j = 0
      rw [h0, mul_zero]
    · intro b hb
      have hb' := Finset.mem_range.1 hb
      have key : ∀ b : Fin 19, 255#32 ≠ BitVec.ofNat 32 b.val := by decide
      unfold cepS
      rw [if_neg (fun h => key ⟨b, hb'⟩ (ht.symm.trans h)), mul_zero]

/-- A sum over the pixels, taken flat. -/
theorem sum_pix (f : S8x512x512.Idx → EReal) : ∑ j, f j = ∑ n ∈ Finset.range 2097152, f (pix n) := by
  rw [sum_idx3, show (2097152 : ℕ) = 8 * 262144 from rfl, sum_mul_range, ← Fin.sum_univ_eq_sum_range (fun i => ∑ k ∈ Finset.range 262144, f (pix (i * 262144 + k))) 8]
  refine Finset.sum_congr rfl fun a _ => ?_
  rw [show (262144 : ℕ) = 512 * 512 from rfl, sum_mul_range,
    ← Fin.sum_univ_eq_sum_range (fun i => ∑ k ∈ Finset.range 512, f (pix (a.val * (512 * 512) + (i * 512 + k)))) 512]
  refine Finset.sum_congr rfl fun b _ => ?_
  rw [← Fin.sum_univ_eq_sum_range (fun k => f (pix (a.val * (512 * 512) + (b.val * 512 + k)))) 512]
  refine Finset.sum_congr rfl fun l _ => congrArg f ?_
  have ha := a.isLt
  have hb := b.isLt
  have hl := l.isLt
  funext d
  refine Fin.ext ?_
  match d with
  | 0 => show a.val = (a.val * (512 * 512) + (b.val * 512 + l.val)) / 262144 % 8; omega
  | 1 => show b.val = (a.val * (512 * 512) + (b.val * 512 + l.val)) / 512 % 512 % 512; omega
  | 2 => show l.val = (a.val * (512 * 512) + (b.val * 512 + l.val)) % 512 % 512; omega

/-- The reference's result is the formula over the pixels. -/
theorem result_eq (hg : ∀ j, Good (col x0 j) (x1 j)) (i : S_.Idx) : val_main_v52 (F := Ideal) x0 x1 i = spec (logits x0) (label x1) := by
  have h51 : val_main_v51 (F := Ideal) x0 x1 i
      = ∑ c ∈ Finset.range 19, weight (logits x0) (label x1) c * ceSum (logits x0) (label x1) c := by
    have hz : (val_main_cst_19 (F := Ideal)) (Shape.Idx.first h_S_) = (0 : EReal) := Ideal.ofBits_zero_f32
    rw [val_main_v51_apply, hz, zero_add, Finset.sum_congr rfl (fun j _ => v50_eq x0 x1 hg j), sum_pix, Finset.sum_comm]
    refine Finset.sum_congr rfl fun c _ => ?_
    exact (mul_sum_of_nonneg _ _ _ (weight_nonneg _ _ _) (weight_ne_top _ _ _)).symm
  rw [val_main_v52_apply, h51]
  unfold spec
  generalize (∑ c ∈ Finset.range 19, weight (logits x0) (label x1) c * ceSum (logits x0) (label x1) c) = s
  show Ideal.div s (Ideal.ofBits .f32 0x4A000000#32) = _
  rw [cN, cInvN]
  unfold Ideal.div
  rw [if_neg (by exact_mod_cast (by norm_num : (2097152 : ℝ) ≠ 0)), ← EReal.coe_inv, one_div]

end

end Cert.ReferenceIdeal.Read

end
-- ==== Proof.Ref.Pre.lean ====
module

public import proofs.«01_k».proof.Pre_loss_is_defined
public import proofs.«01_k».proof.Proof.Ref.Pixel

@[expose] public section

noncomputable section

/-! What the precondition says of each pixel. -/

namespace Cert.Pre_loss_is_defined

open Idealize.ShloMosaic Cert.KernelIdeal

/-- The shape relations the precondition's operations take. -/
theorem facts : Facts where
  reducesTo_S8x19x512x512_S8x512x512_d1 := by decide
  h_S_ := by decide
  bcast_S8x512x512_S8x19x512x512_0_2_3 := by decide
  bcast_S_S8x19x512x512 := by decide

theorem andi_one (a b : BitVec 1) (h : IntOp.andi a b = 1#1) : a = 1#1 ∧ b = 1#1 := by
  rcases BitVec.eq_zero_or_eq_one a with rfl | rfl <;> rcases BitVec.eq_zero_or_eq_one b with rfl | rfl <;> revert h <;> decide

theorem ori_one (a b : BitVec 1) (h : IntOp.ori a b = 1#1) : a = 1#1 ∨ b = 1#1 := by
  rcases BitVec.eq_zero_or_eq_one a with rfl | rfl <;> rcases BitVec.eq_zero_or_eq_one b with rfl | rfl <;> revert h <;> decide

theorem ofBool_one (b : Bool) (h : BitVec.ofBool b = 1#1) : b = true := by
  revert h; cases b <;> decide

/-- A label between 0 and 18 is a class. -/
theorem class_of_range (t : BitVec 32) (h0 : IntOp.cmpi .sge t 0#32 = 1#1) (h1 : IntOp.cmpi .slt t 19#32 = 1#1) :
    ∃ c : Fin 19, t = BitVec.ofNat 32 c := by
  have a : (0#32).sle t = true := ofBool_one _ h0
  have b : t.slt 19#32 = true := ofBool_one _ h1
  rw [BitVec.sle_iff_toInt_le] at a
  rw [BitVec.slt_iff_toInt_lt] at b
  have ha : 0 ≤ t.toInt := a
  have hb : t.toInt < 19 := b
  have hn : t.toNat < 19 := by
    have := t.isLt
    rw [BitVec.toInt_eq_toNat_cond] at ha hb
    split at ha <;> split at hb <;> omega
  exact ⟨⟨t.toNat, hn⟩, by simp⟩

section
variable [Facts]

/-- The precondition's last operations at an index. -/
theorem read (x0 : FVec Ideal S8x19x512x512 .f32) (x1 : IVec S8x512x512 32) (top own : FVec Ideal S8x512x512 .f32) (j : S8x512x512.Idx) (k : Fin 19) :
    fn_part1 (F := Ideal) x0 (broadcastInDim S8x19x512x512 ![0, 2, 3] Facts.bcast_S8x512x512_S8x19x512x512_0_2_3 top)
      (broadcastInDim S8x19x512x512 ![0, 2, 3] Facts.bcast_S8x512x512_S8x19x512x512_0_2_3 x1) (iotaInDim S8x19x512x512 32 1)
      (broadcastInDim S8x19x512x512 ![0, 2, 3] Facts.bcast_S8x512x512_S8x19x512x512_0_2_3 own)
      (andi (cmpi .sge (broadcastInDim S8x19x512x512 ![0, 2, 3] Facts.bcast_S8x512x512_S8x19x512x512_0_2_3 x1)
          (broadcastInDim S8x19x512x512 ![] Facts.bcast_S_S8x19x512x512 (constantI S_ 32 0#32)))
        (cmpi .slt (broadcastInDim S8x19x512x512 ![0, 2, 3] Facts.bcast_S8x512x512_S8x19x512x512_0_2_3 x1)
          (broadcastInDim S8x19x512x512 ![] Facts.bcast_S_S8x19x512x512 (constantI S_ 32 19#32))))
      (cmpf .olt (broadcastInDim S8x19x512x512 ![0, 2, 3] Facts.bcast_S8x512x512_S8x19x512x512_0_2_3 top)
        (broadcastInDim S8x19x512x512 ![] Facts.bcast_S_S8x19x512x512 (constant S_ .f32 0x7F800000#32)))
      (broadcastInDim S8x19x512x512 ![] Facts.bcast_S_S8x19x512x512 (constant S_ .f32 0xFF800000#32)) (ix4 (j 0) k (j 1) (j 2))
    = IntOp.ori (IntOp.cmpi .eq (x1 j) 255#32)
        (IntOp.andi (IntOp.andi (IntOp.andi (IntOp.cmpi .sge (x1 j) 0#32) (IntOp.cmpi .slt (x1 j) 19#32))
            (IntOp.andi (FloatOps.cmpf (F := Ideal) (φ := .f32) .olt (top j) (Ideal.ofBits .f32 0x7F800000#32)) (FloatOps.cmpf (F := Ideal) (φ := .f32) .ogt (top j) (Ideal.ofBits .f32 0xFF800000#32))))
          (IntOp.ori (IntOp.ori (IntOp.cmpi .sge (BitVec.ofNat 32 k.val) (x1 j)) (FloatOps.cmpf (F := Ideal) (φ := .f32) .olt (x0 (ix4 (j 0) k (j 1) (j 2))) (top j)))
            (FloatOps.cmpf (F := Ideal) (φ := .f32) .olt (own j) (top j)))) := by
  have hj : ∀ {α : Type} (y : S8x512x512.Idx → α), broadcastInDim S8x19x512x512 ![0, 2, 3] Facts.bcast_S8x512x512_S8x19x512x512_0_2_3 y (ix4 (j 0) k (j 1) (j 2)) = y j := by
    intro α y
    refine congrArg y (funext fun a => Fin.ext ?_)
    match a with
    | 0 => rfl
    | 1 => rfl
    | 2 => rfl
  unfold fn_part1
  simp only [andi, ori, cmpi, cmpf, hj]
  rfl

/-- The precondition at a pixel and a class, by the reductions it takes. -/
theorem fn_eq (x0 : FVec Ideal S8x19x512x512 .f32) (x1 : IVec S8x512x512 32) :
    ∃ top own : FVec Ideal S8x512x512 .f32,
      (∀ j, top j = Block.topS (ReferenceIdeal.Read.col x0 j) 18)
      ∧ (∀ j (c : Fin 19), x1 j = BitVec.ofNat 32 c → ReferenceIdeal.Read.col x0 j c ≤ own j)
      ∧ ∀ j (k : Fin 19), fn (F := Ideal) x0 x1 (ix4 (j 0) k (j 1) (j 2))
        = IntOp.ori (IntOp.cmpi .eq (x1 j) 255#32)
        (IntOp.andi (IntOp.andi (IntOp.andi (IntOp.cmpi .sge (x1 j) 0#32) (IntOp.cmpi .slt (x1 j) 19#32))
            (IntOp.andi (FloatOps.cmpf (F := Ideal) (φ := .f32) .olt (top j) (Ideal.ofBits .f32 0x7F800000#32)) (FloatOps.cmpf (F := Ideal) (φ := .f32) .ogt (top j) (Ideal.ofBits .f32 0xFF800000#32))))
          (IntOp.ori (IntOp.ori (IntOp.cmpi .sge (BitVec.ofNat 32 k.val) (x1 j)) (FloatOps.cmpf (F := Ideal) (φ := .f32) .olt (x0 (ix4 (j 0) k (j 1) (j 2))) (top j)))
            (FloatOps.cmpf (F := Ideal) (φ := .f32) .olt (own j) (top j)))) := by
  have hz : ∀ i, (constant S_ .f32 0xFF800000#32 : FVec Ideal S_ .f32) i = ⊥ := fun _ => Math.cNegInf
  refine ⟨Host.reduce FloatOps.maximumf x0 (constant S_ .f32 0xFF800000#32) Facts.reducesTo_S8x19x512x512_S8x512x512_d1 Facts.h_S_,
    Host.reduce FloatOps.maximumf (select (cmpi .eq (iotaInDim S8x19x512x512 32 1)
        (broadcastInDim S8x19x512x512 ![0, 2, 3] Facts.bcast_S8x512x512_S8x19x512x512_0_2_3 x1)) x0
        (broadcastInDim S8x19x512x512 ![] Facts.bcast_S_S8x19x512x512 (constant S_ .f32 0xFF800000#32)))
      (constant S_ .f32 0xFF800000#32) Facts.reducesTo_S8x19x512x512_S8x512x512_d1 Facts.h_S_, ?_, ?_, ?_⟩
  · exact fun j => ReferenceIdeal.Read.reduce_max _ _ hz _ _ j
  · intro j c ht
    refine le_of_le_of_eq ?_ (ReferenceIdeal.Read.reduce_max _ _ hz _ _ j).symm
    refine le_of_eq_of_le ?_ (Math.le_topS _ 18 c.val (Nat.le_of_lt_succ c.isLt))
    rw [ReferenceIdeal.Read.col_fin, ReferenceIdeal.Read.col_fin]
    have hb : broadcastInDim S8x19x512x512 ![0, 2, 3] Facts.bcast_S8x512x512_S8x19x512x512_0_2_3 x1 (ReferenceIdeal.Read.at4 j c) = x1 j := by
      refine congrArg x1 (funext fun a => Fin.ext ?_)
      match a with
      | 0 => rfl
      | 1 => rfl
      | 2 => rfl
    have hi : iotaInDim S8x19x512x512 32 1 (ReferenceIdeal.Read.at4 j c) = BitVec.ofNat 32 c.val := rfl
    have he : cmpi .eq (iotaInDim S8x19x512x512 32 1) (broadcastInDim S8x19x512x512 ![0, 2, 3] Facts.bcast_S8x512x512_S8x19x512x512_0_2_3 x1)
        (ReferenceIdeal.Read.at4 j c) = 1#1 := by
      show IntOp.cmpi .eq (iotaInDim S8x19x512x512 32 1 (ReferenceIdeal.Read.at4 j c)) (broadcastInDim S8x19x512x512 ![0, 2, 3] _ x1 (ReferenceIdeal.Read.at4 j c)) = 1#1
      rw [hb, hi, ht]
      have key : ∀ c : Fin 19, IntOp.cmpi .eq (BitVec.ofNat 32 c.val) (BitVec.ofNat 32 c.val) = 1#1 := by decide
      exact key c
    show _ = Scalar.select (cmpi .eq (iotaInDim S8x19x512x512 32 1) (broadcastInDim S8x19x512x512 ![0, 2, 3] Facts.bcast_S8x512x512_S8x19x512x512_0_2_3 x1)
        (ReferenceIdeal.Read.at4 j c)) (x0 (ReferenceIdeal.Read.at4 j c)) _
    rw [he]
    rfl
  · intro j k
    exact read x0 x1 _ _ j k

/-- Where the precondition holds, every pixel is good. -/
theorem good (x0 : FVec Ideal S8x19x512x512 .f32) (x1 : IVec S8x512x512 32) (h : fn (F := Ideal) x0 x1 = fun _ => 1#1) (j : S8x512x512.Idx) :
    ReferenceIdeal.Read.Good (ReferenceIdeal.Read.col x0 j) (x1 j) := by
  obtain ⟨top, own, htop, hown, hfn⟩ := fn_eq x0 x1
  have at_ : ∀ k : Fin 19, _ := fun k => ori_one _ _ ((hfn j k).symm.trans (congrFun h _))
  by_cases hi : IntOp.cmpi .eq (x1 j) 255#32 = 1#1
  · have e : x1 j = 255#32 := by
      have : (x1 j == 255#32) = true := ofBool_one _ hi
      exact eq_of_beq this
    have key : ∀ c : Fin 19, 255#32 ≠ BitVec.ofNat 32 c.val := by decide
    exact ⟨Or.inr e, fun c ht => absurd (e.symm.trans ht) (key c), fun c ht => absurd (e.symm.trans ht) (key c),
      fun c _ ht => absurd (e.symm.trans ht) (key c)⟩
  have sc : ∀ k : Fin 19, _ := fun k => andi_one _ _ ((at_ k).resolve_left hi)
  obtain ⟨hl, hf⟩ := andi_one _ _ (sc 0).1
  obtain ⟨ha, hb⟩ := andi_one _ _ hl
  obtain ⟨hlt, hgt⟩ := andi_one _ _ hf
  have h1 : top j < ⊤ := by
    have : decide (top j < Ideal.ofBits .f32 0x7F800000#32) = true := ofBool_one _ hlt
    rw [← Math.cInf]; exact of_decide_eq_true this
  have h0 : ⊥ < top j := by
    have : decide (Ideal.ofBits .f32 0xFF800000#32 < top j) = true := ofBool_one _ hgt
    rw [← Math.cNegInf]; exact of_decide_eq_true this
  refine ⟨Or.inl (class_of_range _ ha hb), fun _ _ => htop j ▸ h0, fun _ _ => htop j ▸ h1, fun c k ht hc hk => ?_⟩
  rcases ori_one _ _ (sc k).2 with hh | hh
  · rcases ori_one _ _ hh with hh | hh
    · rw [ht] at hh
      have key : ∀ c k : Fin 19, k < c → IntOp.cmpi .sge (BitVec.ofNat 32 k.val) (BitVec.ofNat 32 c.val) = 0#1 := by decide +kernel
      rw [key c k hk] at hh
      exact absurd hh (by decide)
    · have : decide (x0 (ix4 (j 0) k (j 1) (j 2)) < top j) = true := ofBool_one _ hh
      rw [← htop j, ReferenceIdeal.Read.col_fin]
      exact of_decide_eq_true this
  · have : decide (own j < top j) = true := ofBool_one _ hh
    have hlt' := of_decide_eq_true this
    have := (hown j c ht).trans_lt hlt'
    rw [htop j, hc] at this
    exact absurd this (lt_irrefl _)

end

end Cert.Pre_loss_is_defined

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Block.Value
public import proofs.«01_k».proof.Proof.Ref.Value
public import proofs.«01_k».proof.Proof.Ref.Pre
public import Idealize.ShloMosaic.Adequacy
public import Idealize.ShloMosaic.Init

@[expose] public section

noncomputable section

namespace Cert.Proof

open Idealize.ShloMosaic Idealize.SL.Sem

/-- The reference runs, leaves its arguments and ends quiescent. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The idealized kernel and the reference end with the formula over the pixels. -/
theorem algebraic : Cert.algebraic_KernelIdeal_ReferenceIdeal_pre_loss_is_defined (hKernelIdeal := Cert.KernelIdeal.Gen.facts)
    (hReferenceIdeal := Cert.ReferenceIdeal.Gen.facts) (hPre_loss_is_defined := Cert.Pre_loss_is_defined.facts) := by
  intro m g m' g' hpre hagree
  refine ⟨fun c => fun _ => Cert.Math.spec (Cert.KernelIdeal.Block.logits (m ((c.tc : Thread Cert.KernelIdeal.nD Cert.KernelIdeal.τ).loc Cert.KernelIdeal.main_arg0)))
    (Cert.KernelIdeal.Block.label (m ((c.tc : Thread Cert.KernelIdeal.nD Cert.KernelIdeal.τ).loc Cert.KernelIdeal.main_arg1))), ?_, ?_⟩
  · exact Cert.KernelIdeal.Block.run m g _ fun c => Cert.KernelIdeal.Block.value_eq _ _
  · refine (θ_run _ _ _).mono (fun r h c => ⟨(h c).1.trans ?_, (h c).2⟩) (Cert.ReferenceIdeal.Value.run m' g')
    rw [Cert.ReferenceIdeal.Read.val_main_v52_eq, (hagree c).1, (hagree c).2]
    funext i
    exact Cert.ReferenceIdeal.Read.result_eq _ _
      (@Cert.Pre_loss_is_defined.good Cert.Pre_loss_is_defined.facts _ _ (hpre c)) i

theorem claim : Cert.Claim :=
  ⟨Cert.Kernel.Gen.facts, Cert.KernelIdeal.Gen.facts, Cert.ReferenceIdeal.Gen.facts, Cert.Pre_loss_is_defined.facts,
    fun m g _ => Cert.Kernel.Gen.frame m g, fun m g _ => Cert.KernelIdeal.Gen.frame m g, fun m g _ => Cert.KernelIdeal.Gen.frame m g,
    fun m g _ => reference_frame m g trivial, fun m g _ => reference_frame m g trivial, trivial, algebraic⟩

end Cert.Proof

end
